-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![512, 4096]⟩ (Layout.meshBlock [2, 2, 2] ![[], [2]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![512, 4096]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S_ : Shape := ⟨0, ![]⟩
abbrev S256x2048 : Shape := ⟨2, ![256, 2048]⟩
abbrev S512x512 : Shape := ⟨2, ![512, 512]⟩
abbrev S256x512 : Shape := ⟨2, ![256, 512]⟩
abbrev S16x16x512 : Shape := ⟨3, ![16, 16, 512]⟩
abbrev S16 : Shape := ⟨1, ![16]⟩
abbrev S128x2048 : Shape := ⟨2, ![128, 2048]⟩
abbrev S128x512 : Shape := ⟨2, ![128, 512]⟩
abbrev S1 : Shape := ⟨1, ![1]⟩
abbrev S1x16x512 : Shape := ⟨3, ![1, 16, 512]⟩
abbrev S16x512 : Shape := ⟨2, ![16, 512]⟩

abbrev nBuf : Space → Nat
  | .hbm => 29
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S256x2048, .f32⟩
  | .hbm, ⟨26, _⟩ => ⟨S256x2048, .bf16⟩
  | .hbm, ⟨27, _⟩ => ⟨S512x2048, .bf16⟩
  | .hbm, ⟨28, _⟩ => ⟨S512x512, .bf16⟩
  | .local _ .vmem, ⟨0, _⟩ => ⟨S256x2048, .bf16⟩
  | .local _ .vmem, ⟨1, _⟩ => ⟨S512x2048, .bf16⟩
  | .local _ .vmem, ⟨2, _⟩ => ⟨S512x512, .bf16⟩
  | .local _ .vmem, ⟨3, _⟩ => ⟨S256x512, .f32⟩
  | .local _ .vmem, ⟨4, _⟩ => ⟨S256x512, .bf16⟩
  | .local _ .vmem, ⟨5, _⟩ => ⟨S16x16x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v15 : BitVec 32 := Scalar.muli v2 c4_i32_7
  let v16 : BitVec 32 := Scalar.addi c0_i32_8 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v17 : BitVec 32 := Scalar.muli v5 c2_i32_9
  let v18 : BitVec 32 := Scalar.addi v16 v17
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_10 : BitVec 32 := 1#32
  let v19 : BitVec 32 := Scalar.muli v9 c1_i32_10
  let v20 : BitVec 32 := Scalar.addi v18 v19
  v20.toNat
def k0_dev2 (d0 : Dev nD) : Nat :=
  let c0_i32_13 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_12 : BitVec 32 := 4#32
  let v21 : BitVec 32 := Scalar.muli v10 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v25 : BitVec 32 := Scalar.muli v8 c1_i32_15
  let v26 : BitVec 32 := Scalar.addi v24 v25
  v26.toNat
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v27 : BitVec 32 := Scalar.muli v2 c4_i32_17
  let v28 : BitVec 32 := Scalar.addi c0_i32_18 v27
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_19 : BitVec 32 := 2#32
  let v29 : BitVec 32 := Scalar.muli v11 c2_i32_19
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v31 : BitVec 32 := Scalar.muli v8 c1_i32_20
  let v32 : BitVec 32 := Scalar.addi v30 v31
  v32.toNat
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v77 : BitVec 32 := Scalar.muli v2 c4_i32_48
  let v78 : BitVec 32 := Scalar.addi c0_i32_49 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v79 : BitVec 32 := Scalar.muli v5 c2_i32_50
  let v80 : BitVec 32 := Scalar.addi v78 v79
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_51 : BitVec 32 := 1#32
  let v81 : BitVec 32 := Scalar.muli v9 c1_i32_51
  let v82 : BitVec 32 := Scalar.addi v80 v81
  v82.toNat
def k0_dev5 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v90 : BitVec 32 := Scalar.muli v2 c4_i32_59
  let v91 : BitVec 32 := Scalar.addi c0_i32_60 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v92 : BitVec 32 := Scalar.muli v5 c2_i32_61
  let v93 : BitVec 32 := Scalar.addi v91 v92
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_62 : BitVec 32 := 1#32
  let v94 : BitVec 32 := Scalar.muli v9 c1_i32_62
  let v95 : BitVec 32 := Scalar.addi v93 v94
  v95.toNat
def k0_dev6 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v103 : BitVec 32 := Scalar.muli v2 c4_i32_70
  let v104 : BitVec 32 := Scalar.addi c0_i32_71 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v105 : BitVec 32 := Scalar.muli v5 c2_i32_72
  let v106 : BitVec 32 := Scalar.addi v104 v105
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_73 : BitVec 32 := 1#32
  let v107 : BitVec 32 := Scalar.muli v9 c1_i32_73
  let v108 : BitVec 32 := Scalar.addi v106 v107
  v108.toNat
def k0_dev7 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v116 : BitVec 32 := Scalar.muli v2 c4_i32_81
  let v117 : BitVec 32 := Scalar.addi c0_i32_82 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v118 : BitVec 32 := Scalar.muli v5 c2_i32_83
  let v119 : BitVec 32 := Scalar.addi v117 v118
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_84 : BitVec 32 := 1#32
  let v120 : BitVec 32 := Scalar.muli v9 c1_i32_84
  let v121 : BitVec 32 := Scalar.addi v119 v120
  v121.toNat
def k0_dev8 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v129 : BitVec 32 := Scalar.muli v2 c4_i32_92
  let v130 : BitVec 32 := Scalar.addi c0_i32_93 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v131 : BitVec 32 := Scalar.muli v5 c2_i32_94
  let v132 : BitVec 32 := Scalar.addi v130 v131
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_95 : BitVec 32 := 1#32
  let v133 : BitVec 32 := Scalar.muli v9 c1_i32_95
  let v134 : BitVec 32 := Scalar.addi v132 v133
  v134.toNat
def k0_dev9 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v142 : BitVec 32 := Scalar.muli v2 c4_i32_102
  let v143 : BitVec 32 := Scalar.addi c0_i32_103 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v144 : BitVec 32 := Scalar.muli v5 c2_i32_104
  let v145 : BitVec 32 := Scalar.addi v143 v144
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_105 : BitVec 32 := 1#32
  let v146 : BitVec 32 := Scalar.muli v9 c1_i32_105
  let v147 : BitVec 32 := Scalar.addi v145 v146
  v147.toNat
def k0_dev10 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v155 : BitVec 32 := Scalar.muli v2 c4_i32_112
  let v156 : BitVec 32 := Scalar.addi c0_i32_113 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v157 : BitVec 32 := Scalar.muli v5 c2_i32_114
  let v158 : BitVec 32 := Scalar.addi v156 v157
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_115 : BitVec 32 := 1#32
  let v159 : BitVec 32 := Scalar.muli v9 c1_i32_115
  let v160 : BitVec 32 := Scalar.addi v158 v159
  v160.toNat
def k0_dev11 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v168 : BitVec 32 := Scalar.muli v2 c4_i32_122
  let v169 : BitVec 32 := Scalar.addi c0_i32_123 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v170 : BitVec 32 := Scalar.muli v5 c2_i32_124
  let v171 : BitVec 32 := Scalar.addi v169 v170
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_125 : BitVec 32 := 1#32
  let v172 : BitVec 32 := Scalar.muli v9 c1_i32_125
  let v173 : BitVec 32 := Scalar.addi v171 v172
  v173.toNat
def k0_dev12 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v193 : BitVec 32 := Scalar.muli v2 c4_i32_140
  let v194 : BitVec 32 := Scalar.addi c0_i32_141 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v195 : BitVec 32 := Scalar.muli v5 c2_i32_142
  let v196 : BitVec 32 := Scalar.addi v194 v195
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_143 : BitVec 32 := 1#32
  let v197 : BitVec 32 := Scalar.muli v9 c1_i32_143
  let v198 : BitVec 32 := Scalar.addi v196 v197
  v198.toNat
def k0_dev13 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v206 : BitVec 32 := Scalar.muli v2 c4_i32_150
  let v207 : BitVec 32 := Scalar.addi c0_i32_151 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_152 : BitVec 32 := 2#32
  let v208 : BitVec 32 := Scalar.muli v5 c2_i32_152
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_153 : BitVec 32 := 1#32
  let v210 : BitVec 32 := Scalar.muli v9 c1_i32_153
  let v211 : BitVec 32 := Scalar.addi v209 v210
  v211.toNat
def k0_dev14 (d0 : Dev nD) : Nat :=
  let c0_i32_161 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_160 : BitVec 32 := 4#32
  let v219 : BitVec 32 := Scalar.muli v2 c4_i32_160
  let v220 : BitVec 32 := Scalar.addi c0_i32_161 v219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_162 : BitVec 32 := 2#32
  let v221 : BitVec 32 := Scalar.muli v5 c2_i32_162
  let v222 : BitVec 32 := Scalar.addi v220 v221
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_163 : BitVec 32 := 1#32
  let v223 : BitVec 32 := Scalar.muli v9 c1_i32_163
  let v224 : BitVec 32 := Scalar.addi v222 v223
  v224.toNat
def k0_dev15 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v232 : BitVec 32 := Scalar.muli v2 c4_i32_170
  let v233 : BitVec 32 := Scalar.addi c0_i32_171 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_172 : BitVec 32 := 2#32
  let v234 : BitVec 32 := Scalar.muli v5 c2_i32_172
  let v235 : BitVec 32 := Scalar.addi v233 v234
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_173 : BitVec 32 := 1#32
  let v236 : BitVec 32 := Scalar.muli v9 c1_i32_173
  let v237 : BitVec 32 := Scalar.addi v235 v236
  v237.toNat
def k0_dev16 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v245 : BitVec 32 := Scalar.muli v2 c4_i32_180
  let v246 : BitVec 32 := Scalar.addi c0_i32_181 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v247 : BitVec 32 := Scalar.muli v5 c2_i32_182
  let v248 : BitVec 32 := Scalar.addi v246 v247
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_183 : BitVec 32 := 1#32
  let v249 : BitVec 32 := Scalar.muli v9 c1_i32_183
  let v250 : BitVec 32 := Scalar.addi v248 v249
  v250.toNat
def k0_dev17 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v258 : BitVec 32 := Scalar.muli v2 c4_i32_190
  let v259 : BitVec 32 := Scalar.addi c0_i32_191 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v260 : BitVec 32 := Scalar.muli v5 c2_i32_192
  let v261 : BitVec 32 := Scalar.addi v259 v260
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_193 : BitVec 32 := 1#32
  let v262 : BitVec 32 := Scalar.muli v9 c1_i32_193
  let v263 : BitVec 32 := Scalar.addi v261 v262
  v263.toNat
def k0_dev18 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v271 : BitVec 32 := Scalar.muli v2 c4_i32_200
  let v272 : BitVec 32 := Scalar.addi c0_i32_201 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v273 : BitVec 32 := Scalar.muli v5 c2_i32_202
  let v274 : BitVec 32 := Scalar.addi v272 v273
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_203 : BitVec 32 := 1#32
  let v275 : BitVec 32 := Scalar.muli v9 c1_i32_203
  let v276 : BitVec 32 := Scalar.addi v274 v275
  v276.toNat
def k0_dev19 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v284 : BitVec 32 := Scalar.muli v2 c4_i32_210
  let v285 : BitVec 32 := Scalar.addi c0_i32_211 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v286 : BitVec 32 := Scalar.muli v5 c2_i32_212
  let v287 : BitVec 32 := Scalar.addi v285 v286
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_213 : BitVec 32 := 1#32
  let v288 : BitVec 32 := Scalar.muli v9 c1_i32_213
  let v289 : BitVec 32 := Scalar.addi v287 v288
  v289.toNat
def k0_off1 (d0 : Dev nD) (c0_i32_234 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let c0_i32 : BitVec 32 := 0#32
  let c256_i32 : BitVec 32 := 256#32
  let v13 : BitVec 32 := Scalar.select v12 c0_i32 c256_i32
  let v314 : BitVec 32 := Scalar.addi v13 c0_i32_234
  let v315 : Index := Scalar.indexCast v314
  let c0_235 : Index := 0#32
  ![v315.toNat, 0]
def k0_off2 (d0 : Dev nD) (c0_i32_22 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let c0_i32 : BitVec 32 := 0#32
  let c256_i32 : BitVec 32 := 256#32
  let v13 : BitVec 32 := Scalar.select v12 c0_i32 c256_i32
  let v34 : BitVec 32 := Scalar.addi v13 c0_i32_22
  let c0_i32_242 : BitVec 32 := 0#32
  ![v34.toNat, 0]
def k0_dev20 (d0 : Dev nD) : Nat :=
  let c0_i32_239 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_238 : BitVec 32 := 4#32
  let v317 : BitVec 32 := Scalar.muli v10 c4_i32_238
  let v318 : BitVec 32 := Scalar.addi c0_i32_239 v317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_240 : BitVec 32 := 2#32
  let v319 : BitVec 32 := Scalar.muli v5 c2_i32_240
  let v320 : BitVec 32 := Scalar.addi v318 v319
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v321 : BitVec 32 := Scalar.muli v8 c1_i32_241
  let v322 : BitVec 32 := Scalar.addi v320 v321
  v322.toNat
def k0_dev21 (d0 : Dev nD) : Nat :=
  let c0_i32_263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_262 : BitVec 32 := 4#32
  let v349 : BitVec 32 := Scalar.muli v2 c4_i32_262
  let v350 : BitVec 32 := Scalar.addi c0_i32_263 v349
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_264 : BitVec 32 := 2#32
  let v351 : BitVec 32 := Scalar.muli v11 c2_i32_264
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v353 : BitVec 32 := Scalar.muli v8 c1_i32_265
  let v354 : BitVec 32 := Scalar.addi v352 v353
  v354.toNat
def k0_dev22 (d0 : Dev nD) : Nat :=
  let c0_i32_287 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_286 : BitVec 32 := 4#32
  let v381 : BitVec 32 := Scalar.muli v10 c4_i32_286
  let v382 : BitVec 32 := Scalar.addi c0_i32_287 v381
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_288 : BitVec 32 := 2#32
  let v383 : BitVec 32 := Scalar.muli v5 c2_i32_288
  let v384 : BitVec 32 := Scalar.addi v382 v383
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_289 : BitVec 32 := 1#32
  let v385 : BitVec 32 := Scalar.muli v8 c1_i32_289
  let v386 : BitVec 32 := Scalar.addi v384 v385
  v386.toNat
def k0_dev23 (d0 : Dev nD) : Nat :=
  let c0_i32_311 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_310 : BitVec 32 := 4#32
  let v413 : BitVec 32 := Scalar.muli v2 c4_i32_310
  let v414 : BitVec 32 := Scalar.addi c0_i32_311 v413
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_312 : BitVec 32 := 2#32
  let v415 : BitVec 32 := Scalar.muli v11 c2_i32_312
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_313 : BitVec 32 := 1#32
  let v417 : BitVec 32 := Scalar.muli v8 c1_i32_313
  let v418 : BitVec 32 := Scalar.addi v416 v417
  v418.toNat
def k0_dev24 (d0 : Dev nD) : Nat :=
  let c0_i32_335 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_334 : BitVec 32 := 4#32
  let v445 : BitVec 32 := Scalar.muli v10 c4_i32_334
  let v446 : BitVec 32 := Scalar.addi c0_i32_335 v445
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_336 : BitVec 32 := 2#32
  let v447 : BitVec 32 := Scalar.muli v5 c2_i32_336
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v449 : BitVec 32 := Scalar.muli v8 c1_i32_337
  let v450 : BitVec 32 := Scalar.addi v448 v449
  v450.toNat
def k0_dev25 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v477 : BitVec 32 := Scalar.muli v2 c4_i32_358
  let v478 : BitVec 32 := Scalar.addi c0_i32_359 v477
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_360 : BitVec 32 := 2#32
  let v479 : BitVec 32 := Scalar.muli v11 c2_i32_360
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v481 : BitVec 32 := Scalar.muli v8 c1_i32_361
  let v482 : BitVec 32 := Scalar.addi v480 v481
  v482.toNat
def k0_dev26 (d0 : Dev nD) : Nat :=
  let c0_i32_383 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_382 : BitVec 32 := 4#32
  let v509 : BitVec 32 := Scalar.muli v10 c4_i32_382
  let v510 : BitVec 32 := Scalar.addi c0_i32_383 v509
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_384 : BitVec 32 := 2#32
  let v511 : BitVec 32 := Scalar.muli v5 c2_i32_384
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_385 : BitVec 32 := 1#32
  let v513 : BitVec 32 := Scalar.muli v8 c1_i32_385
  let v514 : BitVec 32 := Scalar.addi v512 v513
  v514.toNat
def k0_dev27 (d0 : Dev nD) : Nat :=
  let c0_i32_407 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_406 : BitVec 32 := 4#32
  let v541 : BitVec 32 := Scalar.muli v2 c4_i32_406
  let v542 : BitVec 32 := Scalar.addi c0_i32_407 v541
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_408 : BitVec 32 := 2#32
  let v543 : BitVec 32 := Scalar.muli v11 c2_i32_408
  let v544 : BitVec 32 := Scalar.addi v542 v543
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_409 : BitVec 32 := 1#32
  let v545 : BitVec 32 := Scalar.muli v8 c1_i32_409
  let v546 : BitVec 32 := Scalar.addi v544 v545
  v546.toNat
def k0_dev28 (d0 : Dev nD) : Nat :=
  let c0_i32_432 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_431 : BitVec 32 := 4#32
  let v573 : BitVec 32 := Scalar.muli v10 c4_i32_431
  let v574 : BitVec 32 := Scalar.addi c0_i32_432 v573
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v575 : BitVec 32 := Scalar.muli v5 c2_i32_433
  let v576 : BitVec 32 := Scalar.addi v574 v575
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_434 : BitVec 32 := 1#32
  let v577 : BitVec 32 := Scalar.muli v8 c1_i32_434
  let v578 : BitVec 32 := Scalar.addi v576 v577
  v578.toNat
def k0_dev29 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v605 : BitVec 32 := Scalar.muli v2 c4_i32_455
  let v606 : BitVec 32 := Scalar.addi c0_i32_456 v605
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_457 : BitVec 32 := 2#32
  let v607 : BitVec 32 := Scalar.muli v11 c2_i32_457
  let v608 : BitVec 32 := Scalar.addi v606 v607
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_458 : BitVec 32 := 1#32
  let v609 : BitVec 32 := Scalar.muli v8 c1_i32_458
  let v610 : BitVec 32 := Scalar.addi v608 v609
  v610.toNat
def k0_dev30 (d0 : Dev nD) : Nat :=
  let c0_i32_480 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_479 : BitVec 32 := 4#32
  let v637 : BitVec 32 := Scalar.muli v10 c4_i32_479
  let v638 : BitVec 32 := Scalar.addi c0_i32_480 v637
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_481 : BitVec 32 := 2#32
  let v639 : BitVec 32 := Scalar.muli v5 c2_i32_481
  let v640 : BitVec 32 := Scalar.addi v638 v639
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_482 : BitVec 32 := 1#32
  let v641 : BitVec 32 := Scalar.muli v8 c1_i32_482
  let v642 : BitVec 32 := Scalar.addi v640 v641
  v642.toNat
def k0_dev31 (d0 : Dev nD) : Nat :=
  let c0_i32_504 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_503 : BitVec 32 := 4#32
  let v669 : BitVec 32 := Scalar.muli v2 c4_i32_503
  let v670 : BitVec 32 := Scalar.addi c0_i32_504 v669
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_505 : BitVec 32 := 2#32
  let v671 : BitVec 32 := Scalar.muli v11 c2_i32_505
  let v672 : BitVec 32 := Scalar.addi v670 v671
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_506 : BitVec 32 := 1#32
  let v673 : BitVec 32 := Scalar.muli v8 c1_i32_506
  let v674 : BitVec 32 := Scalar.addi v672 v673
  v674.toNat
def k0_dev32 (d0 : Dev nD) : Nat :=
  let c0_i32_528 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_527 : BitVec 32 := 4#32
  let v701 : BitVec 32 := Scalar.muli v10 c4_i32_527
  let v702 : BitVec 32 := Scalar.addi c0_i32_528 v701
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_529 : BitVec 32 := 2#32
  let v703 : BitVec 32 := Scalar.muli v5 c2_i32_529
  let v704 : BitVec 32 := Scalar.addi v702 v703
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_530 : BitVec 32 := 1#32
  let v705 : BitVec 32 := Scalar.muli v8 c1_i32_530
  let v706 : BitVec 32 := Scalar.addi v704 v705
  v706.toNat
def k0_dev33 (d0 : Dev nD) : Nat :=
  let c0_i32_552 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_551 : BitVec 32 := 4#32
  let v733 : BitVec 32 := Scalar.muli v2 c4_i32_551
  let v734 : BitVec 32 := Scalar.addi c0_i32_552 v733
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_553 : BitVec 32 := 2#32
  let v735 : BitVec 32 := Scalar.muli v11 c2_i32_553
  let v736 : BitVec 32 := Scalar.addi v734 v735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_554 : BitVec 32 := 1#32
  let v737 : BitVec 32 := Scalar.muli v8 c1_i32_554
  let v738 : BitVec 32 := Scalar.addi v736 v737
  v738.toNat
def k0_dev34 (d0 : Dev nD) : Nat :=
  let c0_i32_576 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_575 : BitVec 32 := 4#32
  let v765 : BitVec 32 := Scalar.muli v10 c4_i32_575
  let v766 : BitVec 32 := Scalar.addi c0_i32_576 v765
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_577 : BitVec 32 := 2#32
  let v767 : BitVec 32 := Scalar.muli v5 c2_i32_577
  let v768 : BitVec 32 := Scalar.addi v766 v767
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_578 : BitVec 32 := 1#32
  let v769 : BitVec 32 := Scalar.muli v8 c1_i32_578
  let v770 : BitVec 32 := Scalar.addi v768 v769
  v770.toNat
def k0_dev35 (d0 : Dev nD) : Nat :=
  let c0_i32_600 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_599 : BitVec 32 := 4#32
  let v797 : BitVec 32 := Scalar.muli v2 c4_i32_599
  let v798 : BitVec 32 := Scalar.addi c0_i32_600 v797
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_601 : BitVec 32 := 2#32
  let v799 : BitVec 32 := Scalar.muli v11 c2_i32_601
  let v800 : BitVec 32 := Scalar.addi v798 v799
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_602 : BitVec 32 := 1#32
  let v801 : BitVec 32 := Scalar.muli v8 c1_i32_602
  let v802 : BitVec 32 := Scalar.addi v800 v801
  v802.toNat
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S4096x512, .f32⟩
  | .hbm, ⟨3, _⟩ => ⟨S512x512, .f32⟩
  | .hbm, ⟨4, _⟩ => ⟨S512x512, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Loop.lean ====
module

public import proofs.«01_k».proof.Proof.Gen.KernelIdeal.Points
public import proofs.«01_k».proof.Proof.Gen.KernelIdeal.Skeleton

/-! The kernel's body, told by chunk.

The printed body lists its sixteen chunks one after another. Here each phase is one program that is
a function of the chunk's number, and the body is the phases in order. -/

@[expose] public section

noncomputable section

namespace Cert.KernelIdeal.Chunked

open Idealize.ShloMosaic Idealize.SL.Sem Cert.KernelIdeal Cert.KernelIdeal.Gen

variable {F : FTy → Type} [FloatOps F]

/-! ## Where a chunk lies -/

/-- Semaphore `k` lies in its array of 16. -/
theorem sem_inb (k : Fin 16) : ∀ a, (![k.val] : Fin 1 → Nat) a + S1.size a ≤ S16.size a := by
  revert k; decide
/-- Rows of chunk `k` lie in a buffer of 256 rows. -/
theorem row_inb (k : Fin 16) : ∀ a, (![16 * k.val, 0] : Fin 2 → Nat) a + S16x512.size a ≤ S256x512.size a := by
  revert k; decide
/-- Slot `k` lies in the receive buffer. -/
theorem slot_inb (k : Fin 16) : ∀ a, (![k.val, 0, 0] : Fin 3 → Nat) a + S1x16x512.size a ≤ S16x16x512.size a := by
  revert k; decide
/-- Block `b` lies in the left factor. -/
theorem lhs_inb (b : Fin 2) : ∀ a, (![128 * b.val, 0] : Fin 2 → Nat) a + S128x2048.size a ≤ S256x2048.size a := by
  revert b; decide
/-- Block `b` lies in a buffer of 256 rows. -/
theorem block_inb (b : Fin 2) : ∀ a, (![128 * b.val, 0] : Fin 2 → Nat) a + S128x512.size a ≤ S256x512.size a := by
  revert b; decide

/-- The rows `16k … 16k+15` of a buffer of 256 rows. -/
abbrev rowR (k : Fin 16) : Rect S256x512 := Rect.unit (s := S256x512) ![16 * k.val, 0] S16x512.size (row_inb k)
/-- Slot `k` of the sixteen. -/
abbrev slotR (k : Fin 16) : Rect S16x16x512 := Rect.unit (s := S16x16x512) ![k.val, 0, 0] S1x16x512.size (slot_inb k)
/-- The rows `128b … 128b+127` of the left factor. -/
abbrev lhsR (b : Fin 2) : Rect S256x2048 := Rect.unit (s := S256x2048) ![128 * b.val, 0] S128x2048.size (lhs_inb b)
/-- The rows `128b … 128b+127` of a buffer of 256 rows. -/
abbrev blockR (b : Fin 2) : Rect S256x512 := Rect.unit (s := S256x512) ![128 * b.val, 0] S128x512.size (block_inb b)
/-- The right factor, all of it. -/
abbrev rhsR : Rect S512x2048 := Rect.unit (s := S512x2048) ![0, 0] S512x2048.size inb_S512x2048_S512x2048_0_0
/-- Where chunk `k` of the device's own half lies in its result, as the store spells it. -/
abbrev outR (d : Dev nD) (k : Fin 16) : Rect S512x512 :=
  Rect.unit (s := S512x512) (k0_off1 d (BitVec.ofNat 32 (16 * k.val))) S16x512.size (k0_off1_inb d k)
/-- The same rows, as the copies spell them. -/
abbrev outR' (d : Dev nD) (k : Fin 16) : Rect S512x512 :=
  Rect.unit (s := S512x512) (k0_off2 d (BitVec.ofNat 32 (16 * k.val))) S16x512.size (k0_off2_inb d k)

/-- A chunk of rows at bf16 is made of whole words. -/
theorem row_words (k : Fin 16) : (rowR k).WholeWords (EltTy.packing .bf16) := by
  revert k; decide
/-- A slot at bf16 is made of whole words. -/
theorem slot_words (k : Fin 16) : (slotR k).WholeWords (EltTy.packing .bf16) := by
  revert k; decide
/-- A block at bf16 holds whole packed rows. -/
theorem block_packed (b : Fin 2) : (blockR b).PackedRows (EltTy.packing .bf16) := by
  revert b; decide

/-- Semaphore `k` of an array of sixteen. -/
abbrev semAt (a : DmaSems sig S16) (k : Fin 16) : DmaSem sig :=
  ((a.slice (Rect.unit (s := S16) ![k.val] S1.size (sem_inb k))).squeeze S_ squeezes_S1_S_).sem

/-- Chunk `k`'s rows of a buffer of 256 rows. -/
abbrev rowsAt (a : Memref sig .tc .vmem S256x512 .bf16) (k : Fin 16) : Memref sig .tc .vmem S16x512 .bf16 :=
  a.slice (rowR k) (fun _ => rfl)
/-- Slot `k` of the receive buffer, as sixteen rows. -/
abbrev slotAt (a : Memref sig .tc .vmem S16x16x512 .bf16) (k : Fin 16) : Memref sig .tc .vmem S16x512 .bf16 :=
  (a.slice (slotR k) (fun _ => rfl)).squeeze S16x512 squeezes_S1x16x512_S16x512
/-- Chunk `k` of device `d`'s own half of the result. -/
abbrev outAt (a : Memref sig .tc .vmem S512x512 .bf16) (d : Dev nD) (k : Fin 16) : Memref sig .tc .vmem S16x512 .bf16 :=
  a.slice (outR' d k) (fun _ => rfl)

/-! ## Whom a device talks to -/

/-- The device chunk `k`'s partial product goes to. -/
def zDev (d : Dev nD) : Fin 16 → Dev nD :=
  ![⟨k0_dev4 d, k0_dev4_lt d⟩, ⟨k0_dev5 d, k0_dev5_lt d⟩, ⟨k0_dev6 d, k0_dev6_lt d⟩, ⟨k0_dev7 d, k0_dev7_lt d⟩,
    ⟨k0_dev8 d, k0_dev8_lt d⟩, ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩, ⟨k0_dev15 d, k0_dev15_lt d⟩,
    ⟨k0_dev16 d, k0_dev16_lt d⟩, ⟨k0_dev17 d, k0_dev17_lt d⟩, ⟨k0_dev18 d, k0_dev18_lt d⟩, ⟨k0_dev19 d, k0_dev19_lt d⟩]

/-- The device chunk `k`'s finished rows go to. -/
def pDev (d : Dev nD) : Fin 16 → Dev nD :=
  ![⟨k0_dev20 d, k0_dev20_lt d⟩, ⟨k0_dev21 d, k0_dev21_lt d⟩, ⟨k0_dev22 d, k0_dev22_lt d⟩, ⟨k0_dev23 d, k0_dev23_lt d⟩,
    ⟨k0_dev24 d, k0_dev24_lt d⟩, ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩, ⟨k0_dev31 d, k0_dev31_lt d⟩,
    ⟨k0_dev32 d, k0_dev32_lt d⟩, ⟨k0_dev33 d, k0_dev33_lt d⟩, ⟨k0_dev34 d, k0_dev34_lt d⟩, ⟨k0_dev35 d, k0_dev35_lt d⟩]

/-! ## The phases -/

/-- A program of the TensorCore that returns nothing. -/
abbrev Act (F : FTy → Type) := Prog (TpuEff nD τ sig (Elt F) Λ₀ .tc) PUnit

/-- `f` at each chunk of a list, in order. -/
def forAll (f : Fin 16 → Act F) : List (Fin 16) → Act F
  | [] => .ret ⟨⟩
  | k :: ks => (f k).bind fun _ => forAll f ks

section phases

variable (arg0 : Memref sig .tc .vmem S256x2048 .bf16) (arg1 : Memref sig .tc .vmem S512x2048 .bf16)
  (arg2 : Memref sig .tc .vmem S512x512 .bf16) (harg2 : arg2.IsWhole)
  (arg3 : Memref sig .tc .vmem S256x512 .f32)
  (arg4 : Memref sig .tc .vmem S256x512 .bf16) (harg4 : arg4.IsWhole)
  (arg5 : Memref sig .tc .vmem S16x16x512 .bf16) (harg5 : arg5.IsWhole)
  (arg6 arg7 arg8 arg9 : DmaSems sig S16) (d : Dev nD)

/-- The entry barrier's semaphore. -/
abbrev barSem : Sem sig := (SemArray.scalar (sig.barrier 0 rfl) : Sems sig S_).sem

/-- Tell the three neighbours that this device is inside the kernel. -/
def greet : Act F :=
  (semSignalWord (⟨k0_dev1 d, k0_dev1_lt d⟩ : Dev nD) barSem 1#32).bind fun _ =>
  (semSignalWord (⟨k0_dev2 d, k0_dev2_lt d⟩ : Dev nD) barSem 1#32).bind fun _ =>
  semSignalWord (⟨k0_dev3 d, k0_dev3_lt d⟩ : Dev nD) barSem 1#32

/-- Compute rows `128b … 128b+127` of the partial product; keep them at f32 and at bf16. -/
def multiply (b : Fin 2) : Act F :=
  .op (.load arg0 (lhsR b).toLoadRect (View.loadsAt_vmem h_S128x2048)) fun (v : Vec F S128x2048 .bf16) =>
  .op (.load arg1 rhsR.toLoadRect (View.loadsAt_vmem h_S512x2048)) fun (w : Vec F S512x2048 .bf16) =>
  .op (.load arg3 (blockR b).toLoadRect (View.loadsAt_vmem h_S128x512)) fun (_ : Vec F S128x512 .f32) =>
  .op (.store arg3 (blockR b) (k0_pay2 v w) Finset.univ (View.stores_vmem_bits_univ h_S128x512 rfl) (.inl rfl)) fun _ =>
  .op (.load arg4 (blockR b).toLoadRect (View.loadsAt_vmem h_S128x512)) fun (_ : Vec F S128x512 .bf16) =>
  .op (.store arg4 (blockR b) (k0_pay3 v w) Finset.univ
    (View.stores_vmem h_S128x512 (harg4.storeExact_slice rfl _ (block_packed b)) (fun _ => rfl)) (.inl rfl)) .ret

/-- Send chunk `k` of the partial product to device `e`. -/
def sendZ (e : Dev nD) (k : Fin 16) : Act F :=
  .op (.enqueueDma (rowsAt arg4 k) (.remote (Dev.tc e) (slotAt arg5 k) (.dma (semAt arg6 k))) (.dma (semAt arg7 k))
    (harg4.wordExact_slice rfl _ (row_words k)) ((harg5.wordExact_slice rfl _ (slot_words k)).reshape _ _)
    ⟨⟨rfl, Or.inl rfl⟩, trivial⟩) .ret

/-- Wait for the neighbour's chunk `k`, add it to the own one, and send the sum to device `e`, of the
other row half. -/
def reduce (e : Dev nD) (k : Fin 16) : Act F :=
  .op (.waitDma2 (semAt arg7 k) (rowsAt arg4 k) (slotAt arg5 k)
    (harg4.wordExact_slice rfl _ (row_words k)) ((harg5.wordExact_slice rfl _ (slot_words k)).reshape _ _)) fun _ =>
  .op (.load arg3 (rowR k).toLoadRect (View.loadsAt_vmem h_S16x512)) fun (v : Vec F S16x512 .f32) =>
  .op (.load arg5 (slotR k).toLoadRect (View.loadsAt_vmem h_S1x16x512)) fun (w : Vec F S1x16x512 .bf16) =>
  .op (.load arg2 (outR d k).toLoadRect (View.loadsAt_vmem h_S16x512)) fun (_ : Vec F S16x512 .bf16) =>
  .op (.store arg2 (outR d k) (k0_pay8 v w) Finset.univ
    (View.stores_vmem h_S16x512 (harg2.storeExact_slice rfl _ (k0_off1_packedbf16 d k)) (fun _ => rfl)) (.inl rfl)) fun _ =>
  .op (.enqueueDma (outAt arg2 d k) (.remote (Dev.tc e) (outAt arg2 d k) (.dma (semAt arg8 k))) (.dma (semAt arg9 k))
    (harg2.wordExact_slice rfl _ (k0_off2_wordsbf16 d k)) (harg2.wordExact_slice rfl _ (k0_off2_wordsbf16 d k))
    ⟨⟨rfl, Or.inl rfl⟩, trivial⟩) .ret

/-- Wait for chunk `k` of the other row half. -/
def collect (k : Fin 16) : Act F :=
  .op (.waitDma2 (semAt arg9 k) (outAt arg2 d k) (outAt arg2 d k)
    (harg2.wordExact_slice rfl _ (k0_off2_wordsbf16 d k)) (harg2.wordExact_slice rfl _ (k0_off2_wordsbf16 d k))) .ret

/-- Wait until chunk `k`'s two outgoing copies have left. -/
def drain (k : Fin 16) : Act F :=
  .op (.waitDma2 (semAt arg6 k) (slotAt arg5 k) (rowsAt arg4 k)
    ((harg5.wordExact_slice rfl _ (slot_words k)).reshape _ _) (harg4.wordExact_slice rfl _ (row_words k))) fun _ =>
  .op (.waitDma2 (semAt arg8 k) (outAt arg2 d k) (outAt arg2 d k)
    (harg2.wordExact_slice rfl _ (k0_off2_wordsbf16 d k)) (harg2.wordExact_slice rfl _ (k0_off2_wordsbf16 d k))) .ret

/-- The first eight chunks, the last eight, and all. -/
def chunksLo : List (Fin 16) := [0, 1, 2, 3, 4, 5, 6, 7]
/-- The chunks of the second block. -/
def chunksHi : List (Fin 16) := [8, 9, 10, 11, 12, 13, 14, 15]
/-- All chunks, in order. -/
def chunks : List (Fin 16) := [0, 1, 2, 3, 4, 5, 6, 7, 8, 9, 10, 11, 12, 13, 14, 15]

/-- The body on device `d`. -/
def onDevice : Act F :=
  (greet d).bind fun _ =>
  (multiply arg0 arg1 arg3 arg4 harg4 0).bind fun _ =>
  (semWaitWord barSem 3#32).bind fun _ =>
  (forAll (fun k => sendZ arg4 harg4 arg5 harg5 arg6 arg7 (zDev d k) k) chunksLo).bind fun _ =>
  (multiply arg0 arg1 arg3 arg4 harg4 1).bind fun _ =>
  (forAll (fun k => sendZ arg4 harg4 arg5 harg5 arg6 arg7 (zDev d k) k) chunksHi).bind fun _ =>
  (forAll (fun k => reduce arg2 harg2 arg3 arg4 harg4 arg5 harg5 arg7 arg8 arg9 d (pDev d k) k) chunks).bind fun _ =>
  (forAll (collect arg2 harg2 arg9 d) chunks).bind fun _ =>
  forAll (drain arg2 harg2 arg4 harg4 arg5 harg5 arg6 arg8 d) chunks

end phases

set_option maxRecDepth 65536 in
set_option maxHeartbeats 4000000 in
/-- The printed body is the phases in order, on the device it runs on. -/
theorem body_eq (arg0 : Memref sig .tc .vmem S256x2048 .bf16) (harg0 : arg0.IsWhole) (arg1 : Memref sig .tc .vmem S512x2048 .bf16)
    (harg1 : arg1.IsWhole) (arg2 : Memref sig .tc .vmem S512x512 .bf16) (harg2 : arg2.IsWhole)
    (arg3 : Memref sig .tc .vmem S256x512 .f32) (harg3 : arg3.IsWhole) (arg4 : Memref sig .tc .vmem S256x512 .bf16)
    (harg4 : arg4.IsWhole) (arg5 : Memref sig .tc .vmem S16x16x512 .bf16) (harg5 : arg5.IsWhole)
    (arg6 arg7 arg8 arg9 : DmaSems sig S16) :
    cc0_body (F := F) arg0 harg0 arg1 harg1 arg2 harg2 arg3 harg3 arg4 harg4 arg5 harg5 arg6 arg7 arg8 arg9
      = .op .deviceId fun d =>
          onDevice arg0 arg1 arg2 harg2 arg3 arg4 harg4 arg5 harg5 arg6 arg7 arg8 arg9 d := by
  rfl

end Cert.KernelIdeal.Chunked

end
-- ==== Proof.KernelIdeal.Chunks.lean ====
module

public import proofs.«01_k».proof.Proof.KernelIdeal.Loop
public import Idealize.ShloMosaic.Lib.ValueIdxCore
public import Idealize.ShloMosaic.Lib.Memref

/-! Who talks to whom, where the chunks lie, and what each buffer holds once it is complete.

The contents are whole-buffer functions of the two factors of every device, `X` and `Y`: the partial
product at f32 (`aFun`) and at bf16 (`sFun`), the partial product received from the neighbour across
`z` (`zFun`), and the result (`outFun`). -/

@[expose] public section

noncomputable section

namespace Cert.KernelIdeal.Chunked

open Idealize.ShloMosaic Idealize.SL.Sem Cert.KernelIdeal Cert.KernelIdeal.Gen
open Idealize.ShloMosaic.ValueIdx (ix2 ix3 eq_ix2 eq_ix3)

variable {F : FTy → Type} [FloatOps F]

/-! ## Neighbours -/

/-- The neighbour of a device along each of the three axes. -/
def zn : Dev nD → Dev nD := ![1, 0, 3, 2, 5, 4, 7, 6]
/-- The neighbour across `x`. -/
def xn : Dev nD → Dev nD := ![4, 5, 6, 7, 0, 1, 2, 3]
/-- The neighbour across `y`. -/
def yn : Dev nD → Dev nD := ![2, 3, 0, 1, 6, 7, 4, 5]
/-- The neighbour chunk `k` is exchanged with: across `x` for an even chunk, across `y` for an odd one. -/
def nb (k : Fin 16) (d : Dev nD) : Dev nD := if k.val % 2 = 0 then xn d else yn d
/-- The row half a device computes: the upper one where its `x` and `y` coordinates agree. -/
def half (d : Dev nD) : ℕ := if d.val / 4 = (d.val / 2) % 2 then 0 else 1

/-- Being neighbours across `z` is mutual. -/
theorem zn_zn (d : Dev nD) : zn (zn d) = d := by revert d; decide
/-- Being neighbours across `x` is mutual. -/
theorem xn_xn (d : Dev nD) : xn (xn d) = d := by revert d; decide
/-- Being neighbours across `y` is mutual. -/
theorem yn_yn (d : Dev nD) : yn (yn d) = d := by revert d; decide
/-- A chunk's exchange is mutual. -/
theorem nb_nb (k : Fin 16) (d : Dev nD) : nb k (nb k d) = d := by
  unfold nb; split
  · exact xn_xn d
  · exact yn_yn d
/-- There are two halves. -/
theorem half_lt (d : Dev nD) : half d < 2 := by revert d; decide
/-- The partner of a chunk's exchange owns the other half. -/
theorem half_nb (k : Fin 16) (d : Dev nD) : half (nb k d) + half d = 1 := by
  have hx : ∀ d, half (xn d) + half d = 1 := by decide
  have hy : ∀ d, half (yn d) + half d = 1 := by decide
  unfold nb; split
  · exact hx d
  · exact hy d

/-- The first device that the barrier signals is the neighbour across `z`. -/
theorem dev1_eq (d : Dev nD) : (⟨k0_dev1 d, k0_dev1_lt d⟩ : Dev nD) = zn d := by
  revert d; decide +kernel
/-- The second device that the barrier signals is the neighbour across `x`. -/
theorem dev2_eq (d : Dev nD) : (⟨k0_dev2 d, k0_dev2_lt d⟩ : Dev nD) = xn d := by
  revert d; decide +kernel
/-- The third device that the barrier signals is the neighbour across `y`. -/
theorem dev3_eq (d : Dev nD) : (⟨k0_dev3 d, k0_dev3_lt d⟩ : Dev nD) = yn d := by
  revert d; decide +kernel
/-- The first exchange goes across `z`. -/
theorem zDev_eq (d : Dev nD) (k : Fin 16) : zDev d k = zn d := by
  revert d k; decide +kernel
/-- The second exchange goes to the chunk's partner. -/
theorem pDev_eq (d : Dev nD) (k : Fin 16) : pDev d k = nb k d := by
  revert d k; decide +kernel

/-! ## Buffers and chunks -/

/-- The two factors, the result, the partial product at f32 and at bf16, and the receive buffer. -/
abbrev xM : Memref sig .tc .vmem S256x2048 .bf16 := Memref.whole cc0_stg0_0
abbrev wM : Memref sig .tc .vmem S512x2048 .bf16 := Memref.whole cc0_stg1_0
abbrev oM : Memref sig .tc .vmem S512x512 .bf16 := Memref.whole cc0_stg2_0
abbrev aM : Memref sig .tc .vmem S256x512 .f32 := Memref.whole cc0_scratch0
abbrev sM : Memref sig .tc .vmem S256x512 .bf16 := Memref.whole cc0_scratch1
abbrev zM : Memref sig .tc .vmem S16x16x512 .bf16 := Memref.whole cc0_scratch2

/-- The two spellings of a chunk's place in the result agree. -/
theorem outR_eq (d : Dev nD) (k : Fin 16) : outR d k = outR' d k := by
  have h : k0_off1 d (BitVec.ofNat 32 (16 * k.val)) = k0_off2 d (BitVec.ofNat 32 (16 * k.val)) :=
    (k0_off1_eq d k).trans (k0_off2_eq d k).symm
  unfold outR outR'
  congr 1

/-- Where chunk `k` of a device's half begins in the result. -/
theorem off_half (d : Dev nD) (k : Fin 16) :
    k0_off2 d (BitVec.ofNat 32 (16 * k.val)) = ![256 * half d + 16 * k.val, 0] := by
  rw [k0_off2_eq]; unfold half; split <;> rfl

/-- The rows of chunk `k` of a device's half of the result. -/
theorem mem_outAt (d : Dev nD) (k : Fin 16) (i : S512x512.Idx) :
    i ∈ (outAt oM d k).view.set ↔ (i 0).val / 16 = 16 * half d + k.val := by
  have h1 : (i 1).val < 512 := (i 1).isLt
  rw [show (outAt oM d k).view.set = (outR' d k).set from View.set_slice_whole _ _, Rect.mem_set_unit, off_half,
    Fin.forall_fin_two]
  show (256 * half d + 16 * k.val ≤ (i 0).val ∧ (i 0).val < 256 * half d + 16 * k.val + 16)
    ∧ (0 ≤ (i 1).val ∧ (i 1).val < 0 + 512) ↔ _
  omega

/-- The rows of chunk `k` in a buffer of 256 rows. -/
theorem mem_rowsAt (k : Fin 16) (i : S256x512.Idx) : i ∈ (rowsAt sM k).view.set ↔ (i 0).val / 16 = k.val := by
  have h1 : (i 1).val < 512 := (i 1).isLt
  rw [show (rowsAt sM k).view.set = (rowR k).set from View.set_slice_whole _ _, Rect.mem_set_unit, Fin.forall_fin_two]
  show (16 * k.val ≤ (i 0).val ∧ (i 0).val < 16 * k.val + 16) ∧ (0 ≤ (i 1).val ∧ (i 1).val < 0 + 512) ↔ _
  omega

/-- The elements of slot `k` of the receive buffer. -/
theorem mem_slotAt (k : Fin 16) (i : S16x16x512.Idx) : i ∈ (slotAt zM k).view.set ↔ (i 0).val = k.val := by
  have h1 : (i 1).val < 16 := (i 1).isLt
  have h2 : (i 2).val < 512 := (i 2).isLt
  rw [show (slotAt zM k).view.set = (slotR k).set from (View.set_reshape _ _).trans (View.set_slice_whole _ _),
    Rect.mem_set_unit, Fin.forall_fin_succ, Fin.forall_fin_two]
  show (k.val ≤ (i 0).val ∧ (i 0).val < k.val + 1) ∧ (0 ≤ (i 1).val ∧ (i 1).val < 0 + 16)
    ∧ (0 ≤ (i 2).val ∧ (i 2).val < 0 + 512) ↔ _
  omega

/-- The rows of block `b`. -/
theorem mem_block (b : Fin 2) (i : S256x512.Idx) :
    i ∈ (blockR b).set ↔ (i 0).val / 128 = b.val := by
  have h1 : (i 1).val < 512 := (i 1).isLt
  rw [Rect.mem_set_unit, Fin.forall_fin_two]
  show (128 * b.val ≤ (i 0).val ∧ (i 0).val < 128 * b.val + 128) ∧ (0 ≤ (i 1).val ∧ (i 1).val < 0 + 512) ↔ _
  omega

/-! ## Contents -/

section contents

variable (X : Dev nD → Vec F S256x2048 .bf16) (Y : Dev nD → Vec F S512x2048 .bf16)

/-- Rows `128b … 128b+127` of the left factor. -/
def lhsBlock (x : Vec F S256x2048 .bf16) (b : Fin 2) : Vec F S128x2048 .bf16 := fun j => x ((lhsR b).emb j)

/-- Where row `i` of a buffer of 256 rows lies inside its block of 128. -/
def blockOf (i : S256x512.Idx) : Fin 2 := ⟨(i 0).val / 128, by have h : (i 0).val < 256 := (i 0).isLt; omega⟩
/-- The place of row `i` inside its block of 128. -/
def inBlock (i : S256x512.Idx) : S128x512.Idx := ix2 ⟨(i 0).val % 128, Nat.mod_lt _ (by decide)⟩ (i 1)
/-- Where row `i` of a buffer of 256 rows lies inside its chunk of 16. -/
def chunkOf (i : S256x512.Idx) : Fin 16 := ⟨(i 0).val / 16, by have h : (i 0).val < 256 := (i 0).isLt; omega⟩

/-- The device's partial product, at f32 and rounded to bf16. -/
def aFun (c : Dev nD) : Vec F S256x512 .f32 := fun i => k0_pay2 (lhsBlock (X c) (blockOf i)) (Y c) (inBlock i)
/-- The device's partial product rounded to bf16. -/
def sFun (c : Dev nD) : Vec F S256x512 .bf16 := fun i => k0_pay3 (lhsBlock (X c) (blockOf i)) (Y c) (inBlock i)
/-- The receive buffer: slot `k` holds rows `16k … 16k+15` of the neighbour's partial product. -/
def zFun (c : Dev nD) : Vec F S16x16x512 .bf16 := fun i =>
  sFun X Y (zn c) (ix2 ⟨16 * (i 0).val + (i 1).val, by
    have h0 : (i 0).val < 16 := (i 0).isLt
    have h1 : (i 1).val < 16 := (i 1).isLt
    omega⟩ (i 2))
/-- Chunk `k` of the sum of the two partial products. -/
def redChunk (c : Dev nD) (k : Fin 16) : Vec F S16x512 .bf16 :=
  k0_pay8 (fun j => aFun X Y c ((rowR k).emb j)) (fun j => zFun X Y c ((slotR k).emb j))
/-- The chunk a row of the result belongs to, within its half, and its place there. -/
def outChunk (i : S512x512.Idx) : Fin 16 := ⟨(i 0).val / 16 % 16, Nat.mod_lt _ (by decide)⟩
/-- The place of a row of the result inside its chunk. -/
def inChunk (i : S512x512.Idx) : S16x512.Idx := ix2 ⟨(i 0).val % 16, Nat.mod_lt _ (by decide)⟩ (i 1)
/-- The result: the own half from the own sums, the other half from the neighbours'. -/
def outFun (c : Dev nD) : Vec F S512x512 .bf16 := fun i =>
  redChunk X Y (if (i 0).val / 256 = half c then c else nb (outChunk i) c) (outChunk i) (inChunk i)

/-! What the kernel reads and writes through its chunks. -/

/-- Reading block `b` of the left factor. -/
theorem read_lhs (b : Fin 2) (x : Vec F S256x2048 .bf16) : (xM.access (lhsR b)).read (Elt F) x = lhsBlock x b := rfl

/-- Reading the right factor whole. -/
theorem read_rhs (y : Vec F S512x2048 .bf16) : (wM.access rhsR).read (Elt F) y = y := by
  funext j
  show y (rhsR.emb j) = y j
  congr 1
  funext a
  apply Fin.ext
  rw [Rect.emb_apply]
  match a with
  | ⟨0, _⟩ => show 0 + 1 * (j 0).val = (j 0).val; omega
  | ⟨1, _⟩ => show 0 + 1 * (j 1).val = (j 1).val; omega

/-- An element of block `b` lies in block `b`, at its own place. -/
theorem block_emb (b : Fin 2) (j : S128x512.Idx) : blockOf ((blockR b).emb j) = b ∧ inBlock ((blockR b).emb j) = j := by
  have h0 : (j 0).val < 128 := (j 0).isLt
  have e0 : ((blockR b).emb j 0).val = 128 * b.val + (j 0).val := by
    rw [Rect.emb_apply]; show 128 * b.val + 1 * (j 0).val = _; omega
  have e1 : ((blockR b).emb j 1).val = (j 1).val := by
    rw [Rect.emb_apply]; show 0 + 1 * (j 1).val = _; omega
  constructor
  · apply Fin.ext; show ((blockR b).emb j 0).val / 128 = _; rw [e0]; omega
  · rw [eq_ix2 j]; unfold inBlock
    congr 1
    · apply Fin.ext; show ((blockR b).emb j 0).val % 128 = (j 0).val; rw [e0]; omega
    · apply Fin.ext; exact e1

/-- Block `b` of the f32 partial product is the product of block `b` of the rows. -/
theorem read_aBlock (b : Fin 2) (c : Dev nD) :
    (aM.access (blockR b)).read (Elt F) (aFun X Y c) = k0_pay2 (lhsBlock (X c) b) (Y c) := by
  funext j
  show aFun X Y c ((blockR b).emb j) = _
  unfold aFun
  rw [(block_emb b j).1, (block_emb b j).2]

/-- Block `b` of the bf16 partial product is that product rounded. -/
theorem read_sBlock (b : Fin 2) (c : Dev nD) :
    (sM.access (blockR b)).read (Elt F) (sFun X Y c) = k0_pay3 (lhsBlock (X c) b) (Y c) := by
  funext j
  show sFun X Y c ((blockR b).emb j) = _
  unfold sFun
  rw [(block_emb b j).1, (block_emb b j).2]

/-- Where an element of chunk `k` lies in a buffer of 256 rows. -/
theorem row_emb (k : Fin 16) (j : S16x512.Idx) :
    ((rowR k).emb j 0).val = 16 * k.val + (j 0).val ∧ ((rowR k).emb j 1).val = (j 1).val := by
  constructor
  · rw [Rect.emb_apply]; show 16 * k.val + 1 * (j 0).val = _; omega
  · rw [Rect.emb_apply]; show 0 + 1 * (j 1).val = _; omega

/-- Where an element of chunk `k` of a device's half lies in the result. -/
theorem out_emb (d : Dev nD) (k : Fin 16) (j : S16x512.Idx) :
    ((outR' d k).emb j 0).val = 256 * half d + 16 * k.val + (j 0).val ∧ ((outR' d k).emb j 1).val = (j 1).val := by
  constructor
  · rw [Rect.emb_apply]
    show k0_off2 d (BitVec.ofNat 32 (16 * k.val)) 0 + 1 * (j 0).val = _
    rw [off_half]; show 256 * half d + 16 * k.val + 1 * (j 0).val = _; omega
  · rw [Rect.emb_apply]
    show k0_off2 d (BitVec.ofNat 32 (16 * k.val)) 1 + 1 * (j 1).val = _
    rw [off_half]; show 0 + 1 * (j 1).val = _; omega

/-- Slot `k` of the receive buffer holds what chunk `k` of the neighbour's partial product is. -/
theorem read_slot (k : Fin 16) (c : Dev nD) :
    (slotAt zM k).view.read (Elt F) (zFun X Y c) = (rowsAt sM k).view.read (Elt F) (sFun X Y (zn c)) := by
  funext j
  show zFun X Y c ((slotR k).emb (Shape.reshapeEquiv _ j)) = sFun X Y (zn c) ((rowR k).emb j)
  rw [Shape.reshapeEquiv_cons_one]
  unfold zFun
  congr 1
  rw [eq_ix2 ((rowR k).emb j)]
  congr 1
  · apply Fin.ext
    rw [(row_emb k j).1]
    show 16 * (k.val + 1 * 0) + (0 + 1 * (j 0).val) = _
    omega

/-- Chunk `k` of half `half d` of device `c`'s result. -/
theorem read_out (k : Fin 16) (c d : Dev nD) :
    (outAt oM d k).view.read (Elt F) (outFun X Y c) = redChunk X Y (if half d = half c then c else nb k c) k := by
  funext j
  show outFun X Y c ((outR' d k).emb j) = _
  have h0 : (j 0).val < 16 := (j 0).isLt
  have hk := k.isLt
  have ho := (out_emb d k j).1
  have e1 : outChunk ((outR' d k).emb j) = k := Fin.ext (by
    show ((outR' d k).emb j 0).val / 16 % 16 = k.val; omega)
  have e2 : inChunk ((outR' d k).emb j) = j := by
    rw [eq_ix2 j]; unfold inChunk
    congr 1
    · apply Fin.ext; show ((outR' d k).emb j 0).val % 16 = (j 0).val; omega
    · exact Fin.ext (out_emb d k j).2
  have e3 : ((outR' d k).emb j 0).val / 256 = half d := by omega
  unfold outFun
  rw [e1, e2, e3]

/-- A chunk of the device's own half is its own sum. -/
theorem read_own (k : Fin 16) (c : Dev nD) :
    (outAt oM c k).view.read (Elt F) (outFun X Y c) = redChunk X Y c k := by
  rw [read_out, if_pos rfl]

/-- The other half's chunk `k` is the neighbour's sum. -/
theorem read_other (k : Fin 16) (c : Dev nD) :
    (outAt oM (nb k c) k).view.read (Elt F) (outFun X Y c) = redChunk X Y (nb k c) k := by
  have h := half_nb k c
  rw [read_out, if_neg (by omega)]

end contents

end Cert.KernelIdeal.Chunked

end
-- ==== Proof.KernelIdeal.Sched.lean ====
module

public import proofs.«01_k».proof.Proof.KernelIdeal.Chunks
public import Idealize.ShloMosaic.Lib.Rounds
public import Idealize.ShloMosaic.Lib.Pipeline.RegionTalk
public import Idealize.ShloMosaic.Lib.Pipeline.Regions

/-! The protocol: which semaphore hands over what.

Every semaphore serves one round. The entry barrier of a device takes one unit from each of its three
neighbours; with it the neighbour lends the places this device will write there. Each copy's receive
semaphore hands the landed chunk to its device, and its send semaphore hands the source back. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- The ghost state: the schedule's rounds beside the transfers'. -/
abbrev UU : Type := UR sig nD τ × URounds (GSem nD τ sig) (Fin 3)

local notation "𝕄" => MT nD τ sig Unit (Elt F) ℕ UU ℕ

/-- The pipeline's component and the protocol's. -/
abbrev EP : Emb (UR sig nD τ) (MT nD τ sig Unit (Elt F) ℕ UU ℕ) := embL
/-- Where the schedule's rounds lie in it. -/
abbrev ER : Emb (URounds (GSem nD τ sig) (Fin 3)) (MT nD τ sig Unit (Elt F) ℕ UU ℕ) := embR

/-! ## Cells -/

/-- Chunk `k`'s send semaphore of the exchange across `z`. -/
abbrev zs (k : Fin 16) : DmaSem sig := semAt cc0_scratch3 k
/-- Chunk `k`'s receive semaphore of the exchange across `z`. -/
abbrev zr (k : Fin 16) : DmaSem sig := semAt cc0_scratch4 k
/-- Chunk `k`'s send semaphore of the exchange of halves. -/
abbrev ps (k : Fin 16) : DmaSem sig := semAt cc0_scratch5 k
/-- Chunk `k`'s receive semaphore of the exchange of halves. -/
abbrev pr (k : Fin 16) : DmaSem sig := semAt cc0_scratch6 k

/-- A device's barrier semaphore. -/
abbrev barCell (c : Dev nD) : GSem nD τ sig := ((c : Thread nD τ), .reg barSem)
/-- A device's `zs k`. -/
abbrev zsCell (c : Dev nD) (k : Fin 16) : GSem nD τ sig := ((c : Thread nD τ), .dma (zs k))
/-- A device's `zr k`. -/
abbrev zrCell (c : Dev nD) (k : Fin 16) : GSem nD τ sig := ((c : Thread nD τ), .dma (zr k))
/-- A device's `ps k`. -/
abbrev psCell (c : Dev nD) (k : Fin 16) : GSem nD τ sig := ((c : Thread nD τ), .dma (ps k))
/-- A device's `pr k`. -/
abbrev prCell (c : Dev nD) (k : Fin 16) : GSem nD τ sig := ((c : Thread nD τ), .dma (pr k))

/-- What a semaphore is for. -/
inductive Role where
  | bar | zs (k : Fin 16) | zr (k : Fin 16) | ps (k : Fin 16) | pr (k : Fin 16) | other
  deriving DecidableEq

/-- The role of each semaphore. -/
def roleOf : SemLoc sig → Role
  | .reg _ => .bar
  | .dma s =>
    if s.val < 3 then .other
    else if s.val < 19 then .zs ⟨(s.val - 3) % 16, Nat.mod_lt _ (by decide)⟩
    else if s.val < 35 then .zr ⟨(s.val - 19) % 16, Nat.mod_lt _ (by decide)⟩
    else if s.val < 51 then .ps ⟨(s.val - 35) % 16, Nat.mod_lt _ (by decide)⟩
    else .pr ⟨(s.val - 51) % 16, Nat.mod_lt _ (by decide)⟩

/-- The barrier's role. -/
theorem role_bar : roleOf (.reg barSem) = .bar := rfl
/-- The role of `zs k`. -/
theorem role_zs (k : Fin 16) : roleOf (.dma (zs k)) = .zs k := by revert k; decide
/-- The role of `zr k`. -/
theorem role_zr (k : Fin 16) : roleOf (.dma (zr k)) = .zr k := by revert k; decide
/-- The role of `ps k`. -/
theorem role_ps (k : Fin 16) : roleOf (.dma (ps k)) = .ps k := by revert k; decide
/-- The role of `pr k`. -/
theorem role_pr (k : Fin 16) : roleOf (.dma (pr k)) = .pr k := by revert k; decide

/-- What one chunk's copy credits. -/
abbrev N : ℕ := (slotAt zM 0).view.dmaCredit
/-- A chunk's copy pays something. -/
theorem N_pos : 0 < N := View.dmaCredit_pos _ (by decide)
/-- A copy into a slot pays `N`. -/
theorem credit_slot (k : Fin 16) : (slotAt zM k).view.dmaCredit = N := rfl
/-- A copy out of a chunk of rows pays `N`. -/
theorem credit_rows (k : Fin 16) : (rowsAt sM k).view.dmaCredit = N := rfl
/-- A copy out of, or into, a chunk of the result pays `N`. -/
theorem credit_out (d : Dev nD) (k : Fin 16) : (outAt oM d k).view.dmaCredit = N := rfl

/-! ## What is handed over -/

/-- Device `c`'s chunk `k` of the partial product, of the receive buffer, and of half `half d` of the result. -/
abbrev sPt (c : Dev nD) (k : Fin 16) (f : Buf (Elt F) ((rowsAt sM k).view.loc (c : Thread nD τ))) : sProp 𝕄 :=
  (rowsAt sM k).view.loc (c : Thread nD τ) ↦[(rowsAt sM k).view.set]{fullShare} f
/-- Device `c` holds slot `k` of its receive buffer, with contents `f`. -/
abbrev zPt (c : Dev nD) (k : Fin 16) (f : Buf (Elt F) ((slotAt zM k).view.loc (c : Thread nD τ))) : sProp 𝕄 :=
  (slotAt zM k).view.loc (c : Thread nD τ) ↦[(slotAt zM k).view.set]{fullShare} f
/-- Device `c` holds chunk `k` of half `half d` of its result, with contents `f`. -/
abbrev oPt (c d : Dev nD) (k : Fin 16) (f : Buf (Elt F) ((outAt oM d k).view.loc (c : Thread nD τ))) : sProp 𝕄 :=
  (outAt oM d k).view.loc (c : Thread nD τ) ↦[(outAt oM d k).view.set]{fullShare} f

/-- Lent to `c` across `z`: slot `k` of the neighbour's receive buffer. -/
def lendZ (c : Dev nD) (k : Fin 16) : sProp 𝕄 :=
  iprop((∃ f, zPt (zn c) k f) ∗ reached ER (zrCell (zn c) k) 0)
/-- Lent to `c` by the neighbour of chunk `k`: the rows of chunk `k` of `c`'s half of the neighbour's result. -/
def lendP (c : Dev nD) (k : Fin 16) : sProp 𝕄 :=
  iprop((∃ f, oPt (nb k c) c k f) ∗ reached ER (prCell (nb k c) k) 0)

/-- What a neighbour hands over with its unit of the barrier: duty 0 across `z`, 1 across `x`, 2 across `y`. -/
def barPay (c : Dev nD) (d : Fin 3) : sProp 𝕄 :=
  if d = 0 then bigSep Finset.univ fun k => lendZ c k
  else bigSep (Finset.univ.filter fun k : Fin 16 => k.val % 2 + 1 = d.val) fun k => lendP c k

section sched

variable (X : Dev nD → Vec F S256x2048 .bf16) (Y : Dev nD → Vec F S512x2048 .bf16)

/-- The first exchange's send gives the sent rows back. -/
def zsPay (c : Dev nD) (k : Fin 16) : sProp 𝕄 := sPt c k (sFun X Y c)
/-- The first exchange's receipt brings the neighbour's rows. -/
def zrPay (c : Dev nD) (k : Fin 16) : sProp 𝕄 := zPt c k (zFun X Y c)
/-- The second exchange's send gives the sent chunk of the result back. -/
def psPay (c : Dev nD) (k : Fin 16) : sProp 𝕄 := oPt c c k (outFun X Y c)
/-- The second exchange's receipt brings a chunk of the other half. -/
def prPay (c : Dev nD) (k : Fin 16) : sProp 𝕄 := oPt c (nb k c) k (outFun X Y c)

/-- What each payment of each role carries. -/
def payOf (c : Dev nD) (d : Fin 3) : Role → sProp 𝕄
  | .bar => barPay c d
  | .zs k => zsPay X Y c k
  | .zr k => zrPay X Y c k
  | .ps k => psPay X Y c k
  | .pr k => prPay X Y c k
  | .other => iprop(emp)

/-- How many payments each role expects, by their numbers. -/
def dutiesOf : Role → Finset (Fin 3)
  | .bar => Finset.univ
  | .other => ∅
  | _ => {0}

/-- How much one payment of each role adds to the counter. -/
def unitsOf : Role → ℕ
  | .bar => 1
  | _ => N

/-- Every payment adds something. -/
theorem unitsOf_pos (r : Role) : 0 < unitsOf r := by
  cases r <;> first | exact Nat.one_pos | exact N_pos

/-- One round on every cell. -/
def Rd : Rounds.Schedule (GSem nD τ sig) (Fin 3) 𝕄 where
  duties g r := if r = 0 ∧ g.1.2 = .tc then dutiesOf (roleOf g.2) else ∅
  unitless _ := False
  amount g _ _ := unitsOf (roleOf g.2)
  payload g _ d := payOf X Y g.1.1 d (roleOf g.2)
  amount_pos g _ _ _ := unitsOf_pos _

instance barPay_storable (c : Dev nD) (d : Fin 3) : BI.Storable (upEmb : UEmb _ 𝕄) (barPay (F := F) c d) := by
  unfold barPay lendZ lendP; split <;> infer_instance

instance payOf_storable (c : Dev nD) (d : Fin 3) : ∀ r : Role, BI.Storable (upEmb : UEmb _ 𝕄) (payOf X Y c d r)
  | .bar => barPay_storable c d
  | .zs k => by unfold payOf zsPay; infer_instance
  | .zr k => by unfold payOf zrPay; infer_instance
  | .ps k => by unfold payOf psPay; infer_instance
  | .pr k => by unfold payOf prPay; infer_instance
  | .other => by unfold payOf; infer_instance

instance payload_storable (g : GSem nD τ sig) (r : ℕ) (d : Fin 3) :
    BI.Storable (upEmb : UEmb _ 𝕄) ((Rd (F := F) X Y).payload g r d) :=
  payOf_storable X Y g.1.1 d (roleOf g.2)

/-- There is only one round. -/
theorem duties_later (g : GSem nD τ sig) : ∀ r, 1 ≤ r → (Rd (F := F) X Y).duties g r = ∅ :=
  fun r hr => if_neg fun h => by omega

/-- The payments of the one round are the role's. -/
theorem duties_at (c : Dev nD) (sm : SemLoc sig) :
    (Rd (F := F) X Y).duties ((c : Thread nD τ), sm) 0 = dutiesOf (roleOf sm) := by
  show (if 0 = 0 ∧ (c : Thread nD τ).2 = .tc then dutiesOf (roleOf sm) else ∅) = _
  exact if_pos ⟨rfl, rfl⟩
/-- The amount of a payment is the role's. -/
theorem amount_at (c : Dev nD) (sm : SemLoc sig) (d : Fin 3) :
    (Rd (F := F) X Y).amount ((c : Thread nD τ), sm) 0 d = unitsOf (roleOf sm) := rfl
/-- What a payment carries is the role's. -/
theorem payload_at (c : Dev nD) (sm : SemLoc sig) (d : Fin 3) :
    (Rd (F := F) X Y).payload ((c : Thread nD τ), sm) 0 d = payOf X Y c d (roleOf sm) := rfl
/-- The whole amount expected of a round. -/
theorem expect_at (c : Dev nD) (sm : SemLoc sig) :
    (Rd (F := F) X Y).expect ((c : Thread nD τ), sm) 0 = (dutiesOf (roleOf sm)).card * unitsOf (roleOf sm) := by
  unfold Schedule.expect Schedule.amountOf
  rw [duties_at, Finset.sum_congr rfl fun d _ => amount_at X Y c sm d, Finset.sum_const, smul_eq_mul]
/-- What a finished round has brought in all. -/
theorem rest_at (c : Dev nD) (sm : SemLoc sig) :
    bigSep ((Rd (F := F) X Y).duties ((c : Thread nD τ), sm) 0 \ ∅) (fun d => (Rd (F := F) X Y).payload ((c : Thread nD τ), sm) 0 d)
      = bigSep (dutiesOf (roleOf sm)) fun d => payOf X Y c d (roleOf sm) := by
  rw [Finset.sdiff_empty, duties_at]; rfl

/-- A cell that one copy pays: one duty, of `N` units. -/
structure Paid (sm : SemLoc sig) (pay : Dev nD → sProp 𝕄) : Prop where
  duty : ∀ c : Dev nD, (0 : Fin 3) ∈ (Rd (F := F) X Y).duties ((c : Thread nD τ), sm) 0
  amount : ∀ c : Dev nD, (Rd (F := F) X Y).amount ((c : Thread nD τ), sm) 0 0 = N
  expect : ∀ c : Dev nD, (Rd (F := F) X Y).expect ((c : Thread nD τ), sm) 0 = N
  payload : ∀ c : Dev nD, (Rd (F := F) X Y).payload ((c : Thread nD τ), sm) 0 0 = pay c
  rest : ∀ c : Dev nD, bigSep ((Rd (F := F) X Y).duties ((c : Thread nD τ), sm) 0 \ ∅)
    (fun d => (Rd (F := F) X Y).payload ((c : Thread nD τ), sm) 0 d) = pay c

/-- A role with the one payment of `N` is paid by one copy. -/
theorem Paid.of {sm : SemLoc sig} {pay : Dev nD → sProp 𝕄} (r : Role) (hr : roleOf sm = r) (hd : dutiesOf r = {0})
    (hu : unitsOf r = N) (hp : ∀ c, payOf X Y c 0 r = pay c) : Paid X Y sm pay where
  duty c := by rw [duties_at, hr, hd]; exact Finset.mem_singleton_self _
  amount c := by rw [amount_at, hr, hu]
  expect c := by rw [expect_at, hr, hd, hu, Finset.card_singleton, Nat.one_mul]
  payload c := by rw [payload_at, hr, hp]
  rest c := by rw [rest_at, hr, hd, BI.bigSep_singleton, hp]

/-- `zs k` is paid by one copy. -/
theorem paid_zs (k : Fin 16) : Paid X Y (.dma (zs k)) (fun c => zsPay X Y c k) := .of X Y _ (role_zs k) rfl rfl fun _ => rfl
/-- `zr k` is paid by one copy. -/
theorem paid_zr (k : Fin 16) : Paid X Y (.dma (zr k)) (fun c => zrPay X Y c k) := .of X Y _ (role_zr k) rfl rfl fun _ => rfl
/-- `ps k` is paid by one copy. -/
theorem paid_ps (k : Fin 16) : Paid X Y (.dma (ps k)) (fun c => psPay X Y c k) := .of X Y _ (role_ps k) rfl rfl fun _ => rfl
/-- `pr k` is paid by one copy. -/
theorem paid_pr (k : Fin 16) : Paid X Y (.dma (pr k)) (fun c => prPay X Y c k) := .of X Y _ (role_pr k) rfl rfl fun _ => rfl

/-- The barrier expects three payments. -/
theorem bar_duty (c : Dev nD) (d : Fin 3) : d ∈ (Rd (F := F) X Y).duties (barCell c) 0 := by
  rw [duties_at, role_bar]; exact Finset.mem_univ _
/-- Each payment of the barrier is one. -/
theorem bar_amount (c : Dev nD) (d : Fin 3) : (Rd (F := F) X Y).amount (barCell c) 0 d = 1 := rfl
/-- The barrier expects three in all. -/
theorem bar_expect (c : Dev nD) : (Rd (F := F) X Y).expect (barCell c) 0 = 3 := by rw [expect_at, role_bar]; rfl
/-- What a payment of the barrier carries. -/
theorem bar_payload (c : Dev nD) (d : Fin 3) : (Rd (F := F) X Y).payload (barCell c) 0 d = barPay c d := rfl
/-- The barrier has lent, in all, every slot across `z` and every chunk of the other half. -/
theorem bar_rest (c : Dev nD) :
    bigSep ((Rd (F := F) X Y).duties (barCell c) 0 \ ∅) (fun d => (Rd (F := F) X Y).payload (barCell c) 0 d)
      = iprop((bigSep Finset.univ fun k => lendZ c k) ∗ bigSep Finset.univ fun k => lendP c k) := by
  have h : (Finset.univ.filter fun k : Fin 16 => ¬ k.val % 2 + 1 = (1 : Fin 3).val)
      = Finset.univ.filter fun k : Fin 16 => k.val % 2 + 1 = (2 : Fin 3).val := by decide
  rw [rest_at, role_bar, BI.bigSep_filter_split Finset.univ (fun k : Fin 16 => k.val % 2 + 1 = (1 : Fin 3).val)
    (Φ := fun k => lendP (F := F) c k), h]
  exact bigSep_univ_eq_bigSepL (Φ := fun d : Fin 3 => barPay (F := F) c d) [0, 1, 2] (by decide) (by decide)

end sched

/-! ## What a device owes, and the levels -/

/-- What device `c` owes for chunk `k`'s two copies. -/
def zOwe (c : Dev nD) (k : Fin 16) : CellTallies nD τ sig Unit := tallyAt (zrCell (zn c) k) () N
/-- The debt of the second exchange's chunk `k`. -/
def pOwe (c : Dev nD) (k : Fin 16) : CellTallies nD τ sig Unit := tallyAt (prCell (nb k c) k) () N
/-- The debt of one signal of the barrier. -/
def bOwe (c : Dev nD) : CellTallies nD τ sig Unit := tallyAt (barCell c) () 1

/-- What is owed for a list of chunks. -/
def oweAll (o : Fin 16 → CellTallies nD τ sig Unit) : List (Fin 16) → CellTallies nD τ sig Unit
  | [] => 0
  | k :: ks => oweAll o ks + o k

/-- Owed after the barrier, and at launch. -/
def owedIn (c : Dev nD) : CellTallies nD τ sig Unit :=
  oweAll (pOwe c) chunks + oweAll (zOwe c) chunksHi + oweAll (zOwe c) chunksLo
/-- All that a device owes when it starts. -/
def O₀ (c : Dev nD) : CellTallies nD τ sig Unit := owedIn c + bOwe (yn c) + bOwe (xn c) + bOwe (zn c)

/-- The levels that a semaphore's waits may have. -/
def L (g : GSem nD τ sig) : Finset Unit := if g.1.2 = .tc then {()} else ∅
/-- The order of the waits: barrier, then first exchange, then second. -/
def levelOf : Role → ℕ
  | .bar => 1
  | .zr _ => 2
  | .pr _ => 3
  | _ => 0
/-- The barrier below the receives across `z`, those below the receives of finished rows. -/
def lv (g : GSem nD τ sig) (_ : Unit) : ℕ := levelOf (roleOf g.2)

/-- Only the TensorCore's semaphores have levels. -/
theorem L_of_ne (g : GSem nD τ sig) (h : g.1.2 ≠ .tc) : L g = ∅ := if_neg h

/-- Everything owed lies above level `b`. -/
def Above (b : ℕ) (O : CellTallies nD τ sig Unit) : Prop := ∀ g u, 0 < O g u → g.1.2 = .tc ∧ b < lv g u

/-- No debt is above every level. -/
theorem above_zero (b : ℕ) : Above b 0 := fun _ _ h => absurd h (Nat.lt_irrefl 0)
/-- Two debts above a level are so together. -/
theorem Above.add {b : ℕ} {O O' : CellTallies nD τ sig Unit} (h : Above b O) (h' : Above b O') : Above b (O + O') :=
  fun g u hg => by
    have hg' : 0 < O g u + O' g u := hg
    rcases Nat.eq_zero_or_pos (O g u) with h0 | h0
    · exact h' g u (by omega)
    · exact h g u h0
/-- One debt is above the levels below its semaphore's. -/
theorem above_tally {b : ℕ} (c : Dev nD) (sm : SemLoc sig) (n : ℕ) (h : b < levelOf (roleOf sm)) :
    Above b (tallyAt ((c : Thread nD τ), sm) () n) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
/-- Debts of all chunks of a list are above a level if each is. -/
theorem above_all {b : ℕ} {o : Fin 16 → CellTallies nD τ sig Unit} (h : ∀ k, Above b (o k)) : ∀ l, Above b (oweAll o l)
  | [] => above_zero b
  | _ :: ks => (above_all h ks).add (h _)
/-- The first exchange's debts are above the barrier's level. -/
theorem above_zOwe {b : ℕ} (hb : b < 2) (c : Dev nD) (k : Fin 16) : Above b (zOwe c k) :=
  above_tally _ _ _ (by rw [role_zr]; exact hb)
/-- The second exchange's debts are above the first's level. -/
theorem above_pOwe {b : ℕ} (hb : b < 3) (c : Dev nD) (k : Fin 16) : Above b (pOwe c k) :=
  above_tally _ _ _ (by rw [role_pr]; exact hb)
/-- After the barrier's signals, what is still owed is above the barrier's level. -/
theorem above_in (c : Dev nD) : Above 1 (owedIn c) :=
  ((above_all (above_pOwe (by decide) c) _).add (above_all (above_zOwe (by decide) c) _)).add
    (above_all (above_zOwe (by decide) c) _)

/-- A device may wait on a semaphore while everything it owes lies above that semaphore's level. -/
theorem mayWait (c : Dev nD) (sm : SemLoc sig) (O : CellTallies nD τ sig Unit) (h : Above (levelOf (roleOf sm)) O) :
    (levAts L lv : sProp 𝕄) ⊢ MayWait (c : Thread nD τ) sm () O :=
  MayOwe.of_cut (L := L) (lev := lv) (levelOf (roleOf sm))
    (fun p hp => by rw [Finset.mem_singleton.mp hp]; exact Finset.mem_singleton_self ())
    (fun g u hg => by rw [L, if_pos (h g u hg).1]; exact Finset.mem_singleton_self _)
    (fun p hp => by rw [Finset.mem_singleton.mp hp]; exact Nat.le_refl _)
    (fun g u hg => (h g u hg).2)

end Cert.KernelIdeal.Chunked

end
-- ==== Proof.KernelIdeal.Steps.lean ====
module

public import proofs.«01_k».proof.Proof.KernelIdeal.Sched
public import Idealize.ShloMosaic.Lib.Pipeline.BigSepL

/-! What the phases of the kernel are proved from.

Programs one after another, waiting for a semaphore, and what a copy or a store leaves behind. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells' invariants -/

/-- The four families of the kernel's own semaphores. -/
def fam : Fin 4 → Fin 16 → DmaSem sig := ![zs, zr, ps, pr]
/-- The device's own semaphores, by family and chunk. -/
abbrev osem (p : Fin 4 × Fin 16) : SemLoc sig := .dma (fam p.1 p.2)
/-- A device's own semaphores, by family and chunk. -/
abbrev ownCell (c : Dev nD) (p : Fin 4 × Fin 16) : GSem nD τ sig := ((c : Thread nD τ), osem p)

section run

variable (X : Dev nD → Vec F S256x2048 .bf16) (Y : Dev nD → Vec F S512x2048 .bf16)

/-- Every cell's invariant, named by `K`. -/
def invs (K : GSem nD τ sig → ℕ) : sProp 𝕄 :=
  iprop((bigSep Finset.univ fun c : Dev nD => cellInv ER (Rd X Y) (K (barCell c)) (barCell c))
    ∗ bigSep Finset.univ fun p : Dev nD × (Fin 4 × Fin 16) => cellInv ER (Rd X Y) (K (ownCell p.1 p.2)) (ownCell p.1 p.2))

instance invs_persistent (K : GSem nD τ sig → ℕ) : BI.Persistent (invs X Y K) := by unfold invs; infer_instance

/-- The invariants and the levels: what every phase may read. -/
def know (K : GSem nD τ sig → ℕ) : sProp 𝕄 := iprop(invs X Y K ∗ levAts L lv)

instance know_persistent (K : GSem nD τ sig → ℕ) : BI.Persistent (know X Y K) := by unfold know; infer_instance

/-- What is known of a barrier's semaphore. -/
theorem know_bar (K : GSem nD τ sig → ℕ) (c : Dev nD) :
    know X Y K ⊢ cellInv ER (Rd X Y) (K (barCell c)) (barCell c) := by
  unfold know invs
  exact sep_elim_left.trans (sep_elim_left.trans
    (bigSep_elim (Φ := fun c : Dev nD => cellInv ER (Rd X Y) (K (barCell c)) (barCell c)) (Finset.mem_univ c)))
/-- What is known of a device's own semaphores. -/
theorem know_own (K : GSem nD τ sig → ℕ) (c : Dev nD) (p : Fin 4 × Fin 16) :
    know X Y K ⊢ cellInv ER (Rd X Y) (K (ownCell c p)) (ownCell c p) := by
  unfold know invs
  exact sep_elim_left.trans (sep_elim_right.trans
    (bigSep_elim (Φ := fun p : Dev nD × (Fin 4 × Fin 16) => cellInv ER (Rd X Y) (K (ownCell p.1 p.2)) (ownCell p.1 p.2))
      (Finset.mem_univ (c, p))))
/-- What is known of the levels. -/
theorem know_lev (K : GSem nD τ sig → ℕ) : know X Y K ⊢ (levAts L lv : sProp 𝕄) := by
  unfold know; exact sep_elim_right

/-! ## Programs and lists of programs -/

/-- No loop of the body needs a variant. -/
abbrev 𝒱₀ : Variants := Variants.none

/-- What device `c` must hold for program `p` to run and leave `Q`. -/
abbrev runs (c : Dev nD) (p : Act F) (Q : PUnit → sProp 𝕄) : sProp 𝕄 :=
  wp frame (wpE (defs₀ (F := F)) 𝒱₀ (c : Thread nD τ) none) Set.univ p Q

/-- A program that is over. -/
theorem ret_run {c : Dev nD} {Q : PUnit → sProp 𝕄} : iprop(|={Set.univ}=> Q ⟨⟩) ⊢ runs c (.ret ⟨⟩) Q :=
  Entails.of_eq (wp_ret frame (wpE (defs₀ (F := F)) 𝒱₀ (c : Thread nD τ) none) Set.univ _ _).symm

/-- One program before another. -/
theorem then_run {c : Dev nD} {p : Act F} {k : PUnit → Act F} {P Q : sProp 𝕄} {R : PUnit → sProp 𝕄}
    (h : P ⊢ runs c p fun _ => Q) : P ⊢ iprop((Q -∗ runs c (k ⟨⟩) R) -∗ runs c (p.bind k) R) := by
  refine h.trans ?_
  show _ ⊢ iprop(_ -∗ runs c (p >>= k) R)
  unfold runs
  rw [wp_bind]
  iintro H Hk
  iapply (wp_wand frame (wpE (defs₀ (F := F)) 𝒱₀ (c : Thread nD τ) none) Set.univ) $$ H
  iintro %a HQ
  iapply Hk
  iexact HQ

/-- A phase over a list of chunks: each chunk's part `A k` becomes `B k`, what it owes is paid, and `R` stays. -/
theorem list_run {c : Dev nD} {f : Fin 16 → Act F} {R : sProp 𝕄} {A B : Fin 16 → sProp 𝕄}
    {cr : Fin 16 → CellTallies nD τ sig Unit} (Ok : CellTallies nD τ sig Unit → Prop)
    (hcr : ∀ k O, Ok O → Ok (O + cr k))
    (hstep : ∀ k O, Ok O → iprop(R ∗ A k ∗ ∃ W, owes (c : Thread nD τ) (O + cr k) W)
      ⊢ runs c (f k) fun _ => iprop(R ∗ B k ∗ ∃ W, owes (c : Thread nD τ) O W)) :
    ∀ (l : List (Fin 16)) (O : CellTallies nD τ sig Unit), Ok O →
      iprop(R ∗ bigSepL l A ∗ ∃ W, owes (c : Thread nD τ) (O + oweAll cr l) W)
        ⊢ runs c (forAll f l) fun _ => iprop(R ∗ bigSepL l B ∗ ∃ W, owes (c : Thread nD τ) O W)
  | [], O, _ => by
    unfold forAll oweAll runs
    rw [wp_ret, bigSepL_nil, bigSepL_nil, add_zero]
    iintro H; imodintro; iexact H
  | k :: ks, O, hO => by
    have hall : ∀ l O, Ok O → Ok (O + oweAll cr l) := fun l => by
      induction l with
      | nil => intro O h; unfold oweAll; rw [add_zero]; exact h
      | cons k ks ih => intro O h; unfold oweAll; rw [← add_assoc]; exact hcr _ _ (ih O h)
    unfold forAll oweAll
    rw [bigSepL_cons', bigSepL_cons', ← add_assoc]
    iintro ⟨HR, ⟨HA, HAs⟩, HO⟩
    iapply (then_run (hstep k _ (hall ks O hO))) $$ [HR HA HO]
    · isplitl [HR]; · iexact HR
      isplitl [HA]; · iexact HA
      iexact HO
    iintro ⟨HR, HB, HO⟩
    ihave H := (list_run Ok hcr hstep ks O hO) $$ [HR HAs HO]
    · isplitl [HR]; · iexact HR
      isplitl [HAs]; · iexact HAs
      iexact HO
    iapply (wp_wand frame (wpE (defs₀ (F := F)) 𝒱₀ (c : Thread nD τ) none) Set.univ) $$ H
    iintro %a ⟨HR, HBs, HO⟩
    isplitl [HR]; · iexact HR
    isplitl [HB HBs]
    · isplitl [HB]; · iexact HB
      iexact HBs
    iexact HO

/-! ## Waiting, closing, and what a copy or a store leaves -/

/-- Waiting for a cell that one copy pays: its payload comes out. -/
theorem take_run {sm : DmaSem sig} {pay : Dev nD → sProp 𝕄} (hp : Paid X Y (.dma sm) pay) (c : Dev nD) {κ : ℕ}
    {O : CellTallies nD τ sig Unit} (hO : Above (levelOf (roleOf (.dma sm))) O) {sp sp' : Space} {s s' : Shape} {e e' : EltTy}
    {src : Memref sig .tc sp' s' e'} {dst : Memref sig .tc sp s e} {hs : src.view.WordExact} {hd : dst.view.WordExact}
    (hN : dst.view.dmaCredit = N) {k : PUnit → Act F} {Q : PUnit → sProp 𝕄} :
    iprop(cellInv ER (Rd X Y) κ ((c : Thread nD τ), .dma sm) ∗ levAts L lv
        ∗ cred (tallyAt ((c : Thread nD τ), .dma sm) () N) ∗ atPos ER ((c : Thread nD τ), .dma sm) 0 ∅ 0
        ∗ ∃ W, owes (c : Thread nD τ) O W)
      ⊢ iprop((((∃ W, owes (c : Thread nD τ) O W) ∗ atPos ER ((c : Thread nD τ), .dma sm) (0 + 1) ∅ 0 ∗ pay c) -∗ runs c (k ⟨⟩) Q)
        -∗ runs c (.op (.waitDma2 sm src dst hs hd) k) Q) := by
  rw [← hN]
  iintro ⟨#HI, #Hlev, Hc, Hat, ⟨%W, HO⟩⟩ Hk
  iapply (Rounds.wp_wait_rest_token 𝒱₀ ER (Rd X Y) (c : Thread nD τ) none (κ := κ)
      (wpE_waitDma2_eq 𝒱₀ (c : Thread nD τ) none Set.univ) (Set.mem_univ _) () (O := O) (W := W) (R := 0) (m := 0) (T := ∅)
      ((Nat.zero_add _).trans (hN.trans (hp.expect c).symm))) $$ [Hc HO Hat]
  · isplitr; · iexact HI
    isplitl [Hc]; · iexact Hc
    isplitl [HO]; · iexact HO
    isplitr; · iapply (mayWait c (.dma sm) O hO); iexact Hlev
    iexact Hat
  iintro ⟨HO, Hat, -, Hpay⟩
  ihave Hp := (Entails.of_eq (hp.rest c)) $$ Hpay
  iapply Hk
  isplitl [HO]; · iexists _; iexact HO
  isplitl [Hat]; · iexact Hat
  iexact Hp

/-- A cell whose round is over closes, its counter at zero. -/
theorem close (κ : ℕ) (g : GSem nD τ sig) :
    iprop(cellInv ER (Rd X Y) κ g ∗ atPos ER g (0 + 1) ∅ 0) ⊢ (|={Set.univ}=> semVal g 0 : sProp 𝕄) :=
  Rounds.cell_close ER (Rd X Y) (Set.mem_univ κ) id (duties_later X Y g)

/-- Elements written with what `g` holds there are `g`'s. -/
theorem written {sp : Space} {s : Shape} {e : EltTy} (v : View sig .tc sp s e) (c : Dev nD) (fd g : Buf (Elt F) (v.loc (c : Thread nD τ)))
    (S : Finset (Idx (v.loc (c : Thread nD τ)))) (hS : S ⊆ v.set) :
    (v.loc (c : Thread nD τ) ↦[S]{fullShare} (v.write (Elt F) fd (v.read (Elt F) g) Finset.univ) : sProp 𝕄)
      = (v.loc (c : Thread nD τ) ↦[S]{fullShare} g) := by
  refine pointsTo_congr fun i hi => ?_
  rw [View.write_read_eq_piecewise, View.setOn_univ]
  exact Finset.piecewise_eq_of_mem _ _ _ (hS hi)

/-- Once the copy has landed, the neighbour's slot holds what its receipt is to bring. -/
theorem slot_landed (c : Dev nD) (k : Fin 16) (fd : Buf (Elt F) ((slotAt zM k).view.loc (zn c : Thread nD τ))) :
    zPt (zn c) k ((slotAt zM k).view.write (Elt F) fd ((rowsAt sM k).view.read (Elt F) (sFun X Y c)) Finset.univ)
      = zrPay X Y (zn c) k := by
  have h := read_slot X Y k (zn c)
  rw [zn_zn] at h
  rw [← h]
  exact written (slotAt zM k).view (zn c) fd (zFun X Y (zn c)) _ subset_rfl

/-- Once the copy has landed, the partner's chunk of the result holds what its receipt is to bring. -/
theorem out_landed (c : Dev nD) (k : Fin 16) (fd : Buf (Elt F) ((outAt oM c k).view.loc (nb k c : Thread nD τ))) :
    oPt (nb k c) c k ((outAt oM c k).view.write (Elt F) fd ((outAt oM c k).view.read (Elt F) (outFun X Y c)) Finset.univ)
      = prPay X Y (nb k c) k := by
  have h := read_other X Y k (nb k c)
  rw [nb_nb] at h
  unfold prPay
  rw [read_own, ← h, nb_nb]
  exact written (outAt oM c k).view (nb k c) fd (outFun X Y (nb k c)) _ subset_rfl

/-- The place a sum is stored is the place it is copied from. -/
theorem outR_set (c : Dev nD) (k : Fin 16) : (oM.access (outR c k)).set = (outAt oM c k).view.set := by
  rw [outR_eq]
/-- A chunk of the device's own half, read where the body stores it, is its own sum. -/
theorem outR_read (c : Dev nD) (k : Fin 16) :
    (oM.access (outR c k)).read (Elt F) (outFun X Y c) = redChunk X Y c k := by
  have h : ∀ (o : Fin 2 → Nat) (ho : ∀ a, o a + S16x512.size a ≤ S512x512.size a),
      o = k0_off2 c (BitVec.ofNat 32 (16 * k.val)) →
      (oM.access (Rect.unit (s := S512x512) o S16x512.size ho)).read (Elt F) (outFun X Y c) = redChunk X Y c k :=
    fun o ho e => by subst e; exact read_own X Y k c
  exact h _ _ ((k0_off1_eq c k).trans (k0_off2_eq c k).symm)

/-- Once the sum is stored, the device's chunk holds the result's contents. -/
theorem own_stored (c : Dev nD) (k : Fin 16) (f : Buf (Elt F) ((oM.access (outR c k)).loc (c : Thread nD τ))) :
    ((oM.access (outR c k)).loc (c : Thread nD τ) ↦[(outAt oM c k).view.set]{fullShare}
        ((oM.access (outR c k)).write (Elt F) f
          (k0_pay8 ((aM.access (rowR k)).read (Elt F) (aFun X Y c)) ((zM.access (slotR k)).read (Elt F) (zFun X Y c))) Finset.univ)
      : sProp 𝕄) = psPay X Y c k := by
  show ((oM.access (outR c k)).loc (c : Thread nD τ) ↦[(outAt oM c k).view.set]{fullShare}
    ((oM.access (outR c k)).write (Elt F) f (redChunk X Y c k) Finset.univ) : sProp 𝕄) = _
  rw [← outR_read]
  exact written (oM.access (outR c k)) c f (outFun X Y c) _ (outR_set c k).ge

end run

end Cert.KernelIdeal.Chunked

end
-- ==== Proof.KernelIdeal.Phases.lean ====
module

public import proofs.«01_k».proof.Proof.KernelIdeal.Steps

/-! One chunk through each phase of the kernel.

Every statement is for an arbitrary chunk: what the phase takes for it, and what it gives back. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section run

variable (X : Dev nD → Vec F S256x2048 .bf16) (Y : Dev nD → Vec F S512x2048 .bf16)

section phases

variable (K : GSem nD τ sig → ℕ) (c : Dev nD)

/-- The device's partial product at f32, complete. -/
abbrev aPt (f : Buf (Elt F) (aM.view.loc (c : Thread nD τ))) : sProp 𝕄 :=
  aM.view.loc (c : Thread nD τ) ↦[Finset.univ]{fullShare} f

/-- Sending a chunk across `z`: the chunk goes out with its semaphore's token, the lent slot is filled. -/
def sendA (k : Fin 16) : sProp 𝕄 :=
  iprop(sPt c k (sFun X Y c) ∗ lendZ c k ∗ dutyTok ER (zsCell c k) 0 0 ∗ dutyTok ER (zrCell (zn c) k) 0 0
    ∗ reached ER (zsCell c k) 0)
/-- After the send: the claim to the sent rows' return. -/
def sendB (k : Fin 16) : sProp 𝕄 := cred (tallyAt (zsCell c k) () N)

/-- Chunk `k` is sent across `z`, and its debt is paid. -/
theorem send_run (k : Fin 16) (O : CellTallies nD τ sig Unit) :
    iprop(know X Y K ∗ sendA X Y c k ∗ ∃ W, owes (c : Thread nD τ) (O + zOwe c k) W)
      ⊢ runs c (sendZ sM (Memref.isWhole_whole _) zM (Memref.isWhole_whole _) cc0_scratch3 cc0_scratch4 (zDev c k) k)
        fun _ => iprop(know X Y K ∗ sendB (F := F) c k ∗ ∃ W, owes (c : Thread nD τ) O W) := by
  rw [zDev_eq]
  unfold sendZ sendA sendB lendZ
  iintro ⟨#HK, ⟨Hs, ⟨⟨%fd, Hz⟩, #Hrz⟩, Ht, Htz, #Hr⟩, ⟨%W, HO⟩⟩
  iapply (Rounds.wp_send_pointsTo 𝒱₀ ER (Rd X Y) (c : Thread nD τ) none (c' := (zn c : Thread nD τ)) (src := rowsAt sM k) (dst := slotAt zM k)
      (sS := .dma (zs k)) (sem := .dma (zr k)) (q := fullShare) (fs := sFun X Y c) (κ₁ := K (zsCell c k)) (κ₂ := K (zrCell (zn c) k))
      (r₁ := 0) (r₂ := 0) (d₁ := 0) (d₂ := 0) (fd := fd)
      ((paid_zs X Y k).duty c) ((paid_zr X Y k).duty (zn c)) () () N (credit_slot k) ((paid_zs X Y k).amount c) ((paid_zr X Y k).amount (zn c))
      O rfl (W := W)
      (Entails.of_eq ((paid_zs X Y k).payload c).symm)
      (Entails.of_eq ((slot_landed X Y c k fd).trans ((paid_zr X Y k).payload (zn c)).symm))) $$ [Hs Hz HO Ht Htz]
  · isplitr; · iapply (know_own X Y K c (0, k)); iexact HK
    isplitr; · iapply (know_own X Y K (zn c) (1, k)); iexact HK
    isplitl [Hs]; · iexact Hs
    isplitl [Hz]; · iexact Hz
    isplitl [HO]; · iexact HO
    isplitl [Ht]; · iexact Ht
    isplitr; · iexact Hr
    isplitl [Htz]; · iexact Htz
    iexact Hrz
  iintro ⟨Hc, HO⟩
  iapply ret_run
  imodintro
  isplitr; · iexact HK
  isplitl [Hc]; · iexact Hc
  iexists _; iexact HO

/-- Adding a received chunk to the own one and sending the sum on. -/
def redA (k : Fin 16) : sProp 𝕄 :=
  iprop(cred (tallyAt (zrCell c k) () N) ∗ atPos ER (zrCell c k) 0 ∅ 0 ∗ (∃ f, oPt (F := F) c c k f) ∗ lendP c k
    ∗ dutyTok ER (psCell c k) 0 0 ∗ dutyTok ER (prCell (nb k c) k) 0 0 ∗ reached ER (psCell c k) 0)
/-- After the reduction: the claim to the sent chunk's return, the slot, and the receipt's counter at zero. -/
def redB (k : Fin 16) : sProp 𝕄 :=
  iprop(cred (tallyAt (psCell c k) () N) ∗ zPt c k (zFun X Y c) ∗ semVal (zrCell c k) 0)

/-- Chunk `k` is awaited, added, stored and sent on, and its debt is paid. -/
theorem reduce_run (k : Fin 16) (O : CellTallies nD τ sig Unit) (hO : Above 2 O) :
    iprop((know X Y K ∗ aPt c (aFun X Y c)) ∗ redA (F := F) c k ∗ ∃ W, owes (c : Thread nD τ) (O + pOwe c k) W)
      ⊢ runs c (reduce oM (Memref.isWhole_whole _) aM sM (Memref.isWhole_whole _) zM (Memref.isWhole_whole _)
          cc0_scratch4 cc0_scratch5 cc0_scratch6 c (pDev c k) k)
        fun _ => iprop((know X Y K ∗ aPt c (aFun X Y c)) ∗ redB X Y c k ∗ ∃ W, owes (c : Thread nD τ) O W) := by
  rw [pDev_eq]
  unfold reduce redA redB lendP
  iintro ⟨⟨#HK, Ha⟩, ⟨Hc, Hat, ⟨%fo, Ho⟩, ⟨⟨%fd, Hd⟩, #Hrd⟩, Ht, Htd, #Hr⟩, HO⟩
  iapply (take_run X Y (paid_zr X Y k) c (κ := K (zrCell c k)) (O := O + pOwe c k)
      (by rw [role_zr]; exact hO.add (above_pOwe (by decide) c k)) (credit_slot k)) $$ [Hc Hat HO]
  · isplitr; · iapply (know_own X Y K c (1, k)); iexact HK
    isplitr; · iapply (know_lev X Y K); iexact HK
    isplitl [Hc]; · iexact Hc
    isplitl [Hat]; · iexact Hat
    iexact HO
  iintro ⟨⟨%W, HO⟩, Hat, Hz⟩
  unfold zrPay
  iapply (wp_load_rect 𝒱₀ (c : Thread nD τ) none Set.univ (m := aM) (r := rowR k) (Finset.subset_univ _)) $$ Ha
  iintro Ha
  iapply (wp_load_rect 𝒱₀ (c : Thread nD τ) none Set.univ (m := zM) (r := slotR k) (View.set_reshape _ _).ge) $$ Hz
  iintro Hz
  iapply (wp_load_rect 𝒱₀ (c : Thread nD τ) none Set.univ (m := oM) (r := outR c k) (outR_set c k).le) $$ Ho
  iintro Ho
  iapply (wp_store 𝒱₀ (c : Thread nD τ) none Set.univ (m := oM) (r := outR c k) (by rw [View.setOn_univ]; exact (outR_set c k).le)) $$ Ho
  iintro Ho
  ihave Ho := (Entails.of_eq (own_stored X Y c k fo)) $$ Ho
  unfold psPay
  iapply (Rounds.wp_send_pointsTo 𝒱₀ ER (Rd X Y) (c : Thread nD τ) none (c' := (nb k c : Thread nD τ)) (src := outAt oM c k) (dst := outAt oM c k)
      (sS := .dma (ps k)) (sem := .dma (pr k)) (q := fullShare) (fs := outFun X Y c) (κ₁ := K (psCell c k)) (κ₂ := K (prCell (nb k c) k))
      (r₁ := 0) (r₂ := 0) (d₁ := 0) (d₂ := 0) (fd := fd)
      ((paid_ps X Y k).duty c) ((paid_pr X Y k).duty (nb k c)) () () N (credit_out c k) ((paid_ps X Y k).amount c) ((paid_pr X Y k).amount (nb k c))
      O rfl (W := W)
      (Entails.of_eq ((paid_ps X Y k).payload c).symm)
      (Entails.of_eq ((out_landed X Y c k fd).trans ((paid_pr X Y k).payload (nb k c)).symm))) $$ [Ho Hd HO Ht Htd]
  · isplitr; · iapply (know_own X Y K c (2, k)); iexact HK
    isplitr; · iapply (know_own X Y K (nb k c) (3, k)); iexact HK
    isplitl [Ho]; · iexact Ho
    isplitl [Hd]; · iexact Hd
    isplitl [HO]; · iexact HO
    isplitl [Ht]; · iexact Ht
    isplitr; · iexact Hr
    isplitl [Htd]; · iexact Htd
    iexact Hrd
  iintro ⟨Hc, HO⟩
  iapply ret_run
  imod (close X Y (K (zrCell c k)) (zrCell c k)) $$ [Hat] with Hv
  · isplitr; · iapply (know_own X Y K c (1, k)); iexact HK
    iexact Hat
  imodintro
  isplitl [Ha]
  · isplitr; · iexact HK
    iexact Ha
  isplitl [Hc Hz Hv]
  · isplitl [Hc]; · iexact Hc
    isplitl [Hz]; · iexact Hz
    iexact Hv
  iexists _; iexact HO

/-- Receiving a chunk of the other half. -/
def colA (k : Fin 16) : sProp 𝕄 := iprop(cred (tallyAt (prCell c k) () N) ∗ atPos ER (prCell c k) 0 ∅ 0)
/-- After the collection: the chunk of the other half, and the receipt's counter at zero. -/
def colB (k : Fin 16) : sProp 𝕄 := iprop(prPay X Y c k ∗ semVal (prCell c k) 0)

/-- Chunk `k` of the other half is awaited. -/
theorem collect_run (k : Fin 16) :
    iprop(know X Y K ∗ colA (F := F) c k ∗ ∃ W, owes (c : Thread nD τ) (0 : CellTallies nD τ sig Unit) W)
      ⊢ runs c (collect oM (Memref.isWhole_whole _) cc0_scratch6 c k)
        fun _ => iprop(know X Y K ∗ colB X Y c k ∗ ∃ W, owes (c : Thread nD τ) (0 : CellTallies nD τ sig Unit) W) := by
  unfold collect colA colB
  iintro ⟨#HK, ⟨Hc, Hat⟩, HO⟩
  iapply (take_run X Y (paid_pr X Y k) c (κ := K (prCell c k)) (O := 0) (above_zero _) (credit_out c k)) $$ [Hc Hat HO]
  · isplitr; · iapply (know_own X Y K c (3, k)); iexact HK
    isplitr; · iapply (know_lev X Y K); iexact HK
    isplitl [Hc]; · iexact Hc
    isplitl [Hat]; · iexact Hat
    iexact HO
  iintro ⟨HO, Hat, Hp⟩
  iapply ret_run
  imod (close X Y (K (prCell c k)) (prCell c k)) $$ [Hat] with Hv
  · isplitr; · iapply (know_own X Y K c (3, k)); iexact HK
    iexact Hat
  imodintro
  isplitr; · iexact HK
  isplitl [Hp Hv]
  · isplitl [Hp]; · iexact Hp
    iexact Hv
  iexact HO

/-- Waiting until a chunk's two copies have left: their sources come back. -/
def drainA (k : Fin 16) : sProp 𝕄 :=
  iprop(cred (tallyAt (zsCell c k) () N) ∗ cred (tallyAt (psCell c k) () N)
    ∗ atPos ER (zsCell c k) 0 ∅ 0 ∗ atPos ER (psCell c k) 0 ∅ 0)
/-- After the drain: what was sent, and the two counters at zero. -/
def drainB (k : Fin 16) : sProp 𝕄 :=
  iprop(zsPay X Y c k ∗ psPay X Y c k ∗ semVal (zsCell c k) 0 ∗ semVal (psCell c k) 0)

/-- Both sends of chunk `k` are awaited. -/
theorem drain_run (k : Fin 16) :
    iprop(know X Y K ∗ drainA (F := F) c k ∗ ∃ W, owes (c : Thread nD τ) (0 : CellTallies nD τ sig Unit) W)
      ⊢ runs c (drain oM (Memref.isWhole_whole _) sM (Memref.isWhole_whole _) zM (Memref.isWhole_whole _) cc0_scratch3 cc0_scratch5 c k)
        fun _ => iprop(know X Y K ∗ drainB X Y c k ∗ ∃ W, owes (c : Thread nD τ) (0 : CellTallies nD τ sig Unit) W) := by
  unfold drain drainA drainB
  iintro ⟨#HK, ⟨Hc, Hc', Hat, Hat'⟩, HO⟩
  iapply (take_run X Y (paid_zs X Y k) c (κ := K (zsCell c k)) (O := 0) (above_zero _) (credit_rows k)) $$ [Hc Hat HO]
  · isplitr; · iapply (know_own X Y K c (0, k)); iexact HK
    isplitr; · iapply (know_lev X Y K); iexact HK
    isplitl [Hc]; · iexact Hc
    isplitl [Hat]; · iexact Hat
    iexact HO
  iintro ⟨HO, Hat, Hs⟩
  iapply (take_run X Y (paid_ps X Y k) c (κ := K (psCell c k)) (O := 0) (above_zero _) (credit_out c k)) $$ [Hc' Hat' HO]
  · isplitr; · iapply (know_own X Y K c (2, k)); iexact HK
    isplitr; · iapply (know_lev X Y K); iexact HK
    isplitl [Hc']; · iexact Hc'
    isplitl [Hat']; · iexact Hat'
    iexact HO
  iintro ⟨HO, Hat', Hp⟩
  iapply ret_run
  imod (close X Y (K (zsCell c k)) (zsCell c k)) $$ [Hat] with Hv
  · isplitr; · iapply (know_own X Y K c (0, k)); iexact HK
    iexact Hat
  imod (close X Y (K (psCell c k)) (psCell c k)) $$ [Hat'] with Hv'
  · isplitr; · iapply (know_own X Y K c (2, k)); iexact HK
    iexact Hat'
  imodintro
  isplitr; · iexact HK
  isplitl [Hs Hp Hv Hv']
  · isplitl [Hs]; · iexact Hs
    isplitl [Hp]; · iexact Hp
    isplitl [Hv]; · iexact Hv
    iexact Hv'
  iexact HO

end phases

end run

end Cert.KernelIdeal.Chunked

end
-- ==== Proof.KernelIdeal.Buffers.lean ====
module

public import proofs.«01_k».proof.Proof.KernelIdeal.Phases
public import Idealize.ShloMosaic.Lib.Pipeline.Launch

/-! How a device's buffers come apart into chunks and together again. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Buffers and their chunks -/

/-- Elements classified by `φ` are held class by class. -/
theorem split_by {ℓ : Loc nD τ sig} {T : Type} [DecidableEq T] (φ : Idx ℓ → T) (S : Finset (Idx ℓ)) (Ts : Finset T)
    (A : T → Finset (Idx ℓ)) (hA : ∀ t ∈ Ts, ∀ i, i ∈ A t ↔ i ∈ S ∧ φ i = t) (hS : ∀ i ∈ S, φ i ∈ Ts) (f : Buf (Elt F) ℓ) :
    (ℓ ↦[S]{fullShare} f : sProp 𝕄) = bigSep Ts fun t => ℓ ↦[A t]{fullShare} f := by
  have e : S = Ts.biUnion A := by
    ext i
    rw [Finset.mem_biUnion]
    exact ⟨fun h => ⟨φ i, hS i h, (hA _ (hS i h) i).mpr ⟨h, rfl⟩⟩, fun ⟨t, ht, hi⟩ => ((hA t ht i).mp hi).1⟩
  rw [e]
  refine pointsTo_biUnion Ts A fun t ht t' ht' hne => Finset.disjoint_left.mpr fun i hi hi' => hne ?_
  rw [← ((hA t ht i).mp hi).2, ← ((hA t' ht' i).mp hi').2]

/-- The chunks of block `b`. -/
abbrev inBlk (b : Fin 2) : Finset (Fin 16) := Finset.univ.filter fun k : Fin 16 => k.val / 8 = b.val

/-- All chunks are those of the first block and those of the second. -/
theorem blocks_eq (Φ : Fin 16 → sProp 𝕄) :
    bigSep Finset.univ Φ = iprop(bigSep (inBlk 0) Φ ∗ bigSep (inBlk 1) Φ) := by
  have h : (Finset.univ.filter fun k : Fin 16 => ¬ k.val / 8 = (0 : Fin 2).val) = inBlk 1 := by decide
  rw [BI.bigSep_filter_split Finset.univ (fun k : Fin 16 => k.val / 8 = (0 : Fin 2).val) (Φ := Φ), h]
  rfl

section buffers

variable (c : Dev nD)

/-- The left factor, whole. -/
abbrev xPt (f : Buf (Elt F) (xM.view.loc (c : Thread nD τ))) : sProp 𝕄 := xM.view.loc (c : Thread nD τ) ↦[Finset.univ]{fullShare} f
/-- The right factor, whole. -/
abbrev wPt (f : Buf (Elt F) (wM.view.loc (c : Thread nD τ))) : sProp 𝕄 := wM.view.loc (c : Thread nD τ) ↦[Finset.univ]{fullShare} f
/-- The result, whole. -/
abbrev oAll (f : Buf (Elt F) (oM.view.loc (c : Thread nD τ))) : sProp 𝕄 := oM.view.loc (c : Thread nD τ) ↦[Finset.univ]{fullShare} f
/-- The bf16 partial product, whole. -/
abbrev sAll (f : Buf (Elt F) (sM.view.loc (c : Thread nD τ))) : sProp 𝕄 := sM.view.loc (c : Thread nD τ) ↦[Finset.univ]{fullShare} f
/-- The receive buffer, whole. -/
abbrev zAll (f : Buf (Elt F) (zM.view.loc (c : Thread nD τ))) : sProp 𝕄 := zM.view.loc (c : Thread nD τ) ↦[Finset.univ]{fullShare} f
/-- Block `b` of the partial product, at f32 and at bf16. -/
abbrev aBlk (b : Fin 2) (f : Buf (Elt F) (aM.view.loc (c : Thread nD τ))) : sProp 𝕄 :=
  aM.view.loc (c : Thread nD τ) ↦[(aM.access (blockR b)).set]{fullShare} f
/-- Block `b` of the bf16 partial product. -/
abbrev sBlk (b : Fin 2) (f : Buf (Elt F) (sM.view.loc (c : Thread nD τ))) : sProp 𝕄 :=
  sM.view.loc (c : Thread nD τ) ↦[(sM.access (blockR b)).set]{fullShare} f

/-- The rows of a block of the f32 partial product. -/
theorem mem_aBlk (b : Fin 2) (i : S256x512.Idx) : i ∈ (aM.access (blockR b)).set ↔ (i 0).val / 128 = b.val := by
  rw [show (aM.access (blockR b)).set = (blockR b).set from View.set_slice_whole _ _]; exact mem_block b i
/-- The rows of a block of the bf16 partial product. -/
theorem mem_sBlk (b : Fin 2) (i : S256x512.Idx) : i ∈ (sM.access (blockR b)).set ↔ (i 0).val / 128 = b.val := by
  rw [show (sM.access (blockR b)).set = (blockR b).set from View.set_slice_whole _ _]; exact mem_block b i

/-- The f32 partial product is its two blocks. -/
theorem aPt_blocks (f : Buf (Elt F) (aM.view.loc (c : Thread nD τ))) :
    aPt c f = iprop(aBlk c 0 f ∗ aBlk c 1 f) := by
  refine (split_by (ℓ := aM.view.loc (c : Thread nD τ)) blockOf Finset.univ Finset.univ (fun b => (aM.access (blockR b)).set)
    (fun b _ i => ?_) (fun _ _ => Finset.mem_univ _) f).trans (BI.bigSep_fin_two _)
  rw [mem_aBlk]
  exact ⟨fun h => ⟨Finset.mem_univ _, Fin.ext h⟩, fun h => congrArg Fin.val h.2⟩

/-- The bf16 partial product is its two blocks. -/
theorem sAll_blocks (f : Buf (Elt F) (sM.view.loc (c : Thread nD τ))) :
    sAll c f = iprop(sBlk c 0 f ∗ sBlk c 1 f) := by
  refine (split_by (ℓ := sM.view.loc (c : Thread nD τ)) blockOf Finset.univ Finset.univ (fun b => (sM.access (blockR b)).set)
    (fun b _ i => ?_) (fun _ _ => Finset.mem_univ _) f).trans (BI.bigSep_fin_two _)
  rw [mem_sBlk]
  exact ⟨fun h => ⟨Finset.mem_univ _, Fin.ext h⟩, fun h => congrArg Fin.val h.2⟩

/-- A block of the bf16 partial product is its eight chunks. -/
theorem sBlk_chunks (b : Fin 2) (f : Buf (Elt F) (sM.view.loc (c : Thread nD τ))) :
    sBlk c b f = bigSep (inBlk b) fun k => sPt c k f := by
  refine split_by (ℓ := sM.view.loc (c : Thread nD τ)) chunkOf _ (inBlk b) (fun k => (rowsAt sM k).view.set)
    (fun k hk i => ?_) (fun i hi => ?_) f
  · have hk := (Finset.mem_filter.mp hk).2
    rw [mem_rowsAt, mem_sBlk]
    refine ⟨fun h => ⟨by omega, Fin.ext h⟩, fun h => congrArg Fin.val h.2⟩
  · have hi := (mem_sBlk b i).mp hi
    refine Finset.mem_filter.mpr ⟨Finset.mem_univ _, ?_⟩
    show (i 0).val / 16 / 8 = b.val
    omega

/-- The bf16 partial product is its sixteen chunks. -/
theorem sAll_chunks (f : Buf (Elt F) (sM.view.loc (c : Thread nD τ))) :
    sAll c f = bigSep Finset.univ fun k => sPt c k f := by
  rw [sAll_blocks, sBlk_chunks, sBlk_chunks, blocks_eq]

/-- The slot an element of the receive buffer lies in. -/
def slotOf (i : S16x16x512.Idx) : Fin 16 := i 0

/-- The receive buffer is its sixteen slots. -/
theorem zAll_chunks (f : Buf (Elt F) (zM.view.loc (c : Thread nD τ))) :
    zAll c f = bigSep Finset.univ fun k => zPt c k f := by
  refine split_by (ℓ := zM.view.loc (c : Thread nD τ)) slotOf _ _
    (fun k => (slotAt zM k).view.set) (fun k _ i => ?_) (fun _ _ => Finset.mem_univ _) f
  rw [mem_slotAt]
  exact ⟨fun h => ⟨Finset.mem_univ _, Fin.ext h⟩, fun h => congrArg Fin.val h.2⟩

/-- Which half of the result a row lies in: 0 the device's own. -/
def sideOf (i : S512x512.Idx) : Fin 2 := if (i 0).val / 256 = half c then 0 else 1

/-- The rows of a chunk of the device's own half. -/
theorem mem_own (k : Fin 16) (i : S512x512.Idx) :
    i ∈ (outAt oM c k).view.set ↔ (sideOf c i, outChunk i) = ((0, k) : Fin 2 × Fin 16) := by
  have hi : (i 0).val < 512 := (i 0).isLt
  have hk := k.isLt
  rw [mem_outAt, Prod.mk.injEq, Fin.ext_iff (a := outChunk i)]
  unfold sideOf outChunk
  by_cases h : (i 0).val / 256 = half c
  · rw [if_pos h]; exact ⟨fun h' => ⟨rfl, by show (i 0).val / 16 % 16 = k.val; omega⟩,
      fun h' => by have := h'.2; simp only at this; omega⟩
  · rw [if_neg h]; exact ⟨fun h' => by omega, fun h' => absurd h'.1 (by decide)⟩

/-- The rows of a chunk of the other half. -/
theorem mem_other (k : Fin 16) (i : S512x512.Idx) :
    i ∈ (outAt oM (nb k c) k).view.set ↔ (sideOf c i, outChunk i) = ((1, k) : Fin 2 × Fin 16) := by
  have hi : (i 0).val < 512 := (i 0).isLt
  have hk := k.isLt
  have hn := half_nb k c
  rw [mem_outAt, Prod.mk.injEq, Fin.ext_iff (a := outChunk i)]
  unfold sideOf outChunk
  by_cases h : (i 0).val / 256 = half c
  · rw [if_pos h]; exact ⟨fun h' => by omega, fun h' => absurd h'.1 (by decide)⟩
  · rw [if_neg h]; exact ⟨fun h' => ⟨rfl, by show (i 0).val / 16 % 16 = k.val; omega⟩,
      fun h' => by have := h'.2; simp only at this; omega⟩

/-- The result is its own half's chunks and the other half's. -/
theorem oAll_chunks (f : Buf (Elt F) (oM.view.loc (c : Thread nD τ))) :
    oAll c f = iprop((bigSep Finset.univ fun k => oPt c c k f) ∗ bigSep Finset.univ fun k => oPt c (nb k c) k f) := by
  refine (split_by (ℓ := oM.view.loc (c : Thread nD τ))
    (fun i : S512x512.Idx => ((sideOf c i, outChunk i) : Fin 2 × Fin 16)) _ Finset.univ
    (fun p => ![(outAt oM c p.2).view.set, (outAt oM (nb p.2 c) p.2).view.set] p.1) (fun p _ i => ?_) (fun _ _ => Finset.mem_univ _) f).trans
    ((bigSep_univ_prod _).trans (BI.bigSep_fin_two _))
  obtain ⟨b, k⟩ := p
  match b with
  | 0 => exact (mem_own c k i).trans ⟨fun h => ⟨Finset.mem_univ _, h⟩, fun h => h.2⟩
  | 1 => exact (mem_other c k i).trans ⟨fun h => ⟨Finset.mem_univ _, h⟩, fun h => h.2⟩

end buffers

end Cert.KernelIdeal.Chunked

end
-- ==== Proof.KernelIdeal.Body.lean ====
module

public import proofs.«01_k».proof.Proof.KernelIdeal.Buffers
public import Idealize.ShloMosaic.Lib.Pipeline.Launch

/-! The whole body on one device: the buffers come apart into chunks, the chunks go through the phases,
and the buffers come together again. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Two families side by side are one family of pairs. -/
theorem zip (S : Finset (Fin 16)) (A B : Fin 16 → sProp 𝕄) :
    bigSep S (fun k => iprop(A k ∗ B k)) = iprop(bigSep S A ∗ bigSep S B) := bigSep_sep S A B

section run

variable (X : Dev nD → Vec F S256x2048 .bf16) (Y : Dev nD → Vec F S512x2048 .bf16) (K : GSem nD τ sig → ℕ) (c : Dev nD)

/-! ## The phases, over all their chunks -/

/-- Chunks that owe nothing owe nothing together. -/
theorem oweAll_zero (l : List (Fin 16)) : oweAll (fun _ => 0) l = 0 := by
  induction l with
  | nil => rfl
  | cons k ks ih => unfold oweAll; rw [ih, add_zero]

/-- `list_run` over the chunks of a set. -/
theorem phase_run {f : Fin 16 → Act F} {R : sProp 𝕄} {A B : Fin 16 → sProp 𝕄}
    {cr : Fin 16 → CellTallies nD τ sig Unit} (Ok : CellTallies nD τ sig Unit → Prop)
    (hcr : ∀ k O, Ok O → Ok (O + cr k))
    (hstep : ∀ k O, Ok O → iprop(R ∗ A k ∗ ∃ W, owes (c : Thread nD τ) (O + cr k) W)
      ⊢ runs c (f k) fun _ => iprop(R ∗ B k ∗ ∃ W, owes (c : Thread nD τ) O W))
    (S : Finset (Fin 16)) (l : List (Fin 16)) (hS : S = l.toFinset) (hl : l.Nodup) (O : CellTallies nD τ sig Unit) (hO : Ok O) :
    iprop(R ∗ bigSep S A ∗ ∃ W, owes (c : Thread nD τ) (O + oweAll cr l) W)
      ⊢ runs c (forAll f l) fun _ => iprop(R ∗ bigSep S B ∗ ∃ W, owes (c : Thread nD τ) O W) := by
  rw [bigSep_eq_bigSepL_of_eq l hS hl A, bigSep_eq_bigSepL_of_eq l hS hl B]
  exact list_run Ok hcr hstep l O hO

/-- All chunks of a list are sent across `z`. -/
theorem sends_run (S : Finset (Fin 16)) (l : List (Fin 16)) (hS : S = l.toFinset) (hl : l.Nodup) (O : CellTallies nD τ sig Unit) :
    iprop(know X Y K ∗ bigSep S (sendA X Y c) ∗ ∃ W, owes (c : Thread nD τ) (O + oweAll (zOwe c) l) W)
      ⊢ runs c (forAll (fun k => sendZ sM (Memref.isWhole_whole _) zM (Memref.isWhole_whole _) cc0_scratch3 cc0_scratch4 (zDev c k) k) l)
        fun _ => iprop(know X Y K ∗ bigSep S (sendB c) ∗ ∃ W, owes (c : Thread nD τ) O W) :=
  phase_run c (fun _ => True) (fun _ _ _ => trivial) (fun k O _ => send_run X Y K c k O) S l hS hl O trivial

/-- All chunks are reduced and sent on. -/
theorem reduces_run :
    iprop((know X Y K ∗ aPt c (aFun X Y c)) ∗ bigSep Finset.univ (redA c) ∗ ∃ W, owes (c : Thread nD τ) (0 + oweAll (pOwe c) chunks) W)
      ⊢ runs c (forAll (fun k => reduce oM (Memref.isWhole_whole _) aM sM (Memref.isWhole_whole _) zM (Memref.isWhole_whole _)
          cc0_scratch4 cc0_scratch5 cc0_scratch6 c (pDev c k) k) chunks)
        fun _ => iprop((know X Y K ∗ aPt c (aFun X Y c)) ∗ bigSep Finset.univ (redB X Y c) ∗ ∃ W, owes (c : Thread nD τ) 0 W) :=
  phase_run c (Above 2) (fun k _ h => h.add (above_pOwe (by decide) c k)) (fun k O h => reduce_run X Y K c k O h)
    Finset.univ chunks (by decide) (by decide) 0 (above_zero 2)

/-- All chunks of the other half are collected. -/
theorem collects_run :
    iprop(know X Y K ∗ bigSep Finset.univ (colA c) ∗ ∃ W, owes (c : Thread nD τ) (0 : CellTallies nD τ sig Unit) W)
      ⊢ runs c (forAll (collect oM (Memref.isWhole_whole _) cc0_scratch6 c) chunks)
        fun _ => iprop(know X Y K ∗ bigSep Finset.univ (colB X Y c) ∗ ∃ W, owes (c : Thread nD τ) (0 : CellTallies nD τ sig Unit) W) := by
  have h := phase_run c (f := collect oM (Memref.isWhole_whole _) cc0_scratch6 c) (cr := fun _ => 0) (fun O => O = 0) (fun k O h => by rw [h, add_zero])
    (fun k O h => by subst h; rw [add_zero]; exact collect_run X Y K c k) Finset.univ chunks (by decide) (by decide) 0 rfl
  rwa [oweAll_zero, add_zero] at h

/-- All sends are awaited. -/
theorem drains_run :
    iprop(know X Y K ∗ bigSep Finset.univ (drainA c) ∗ ∃ W, owes (c : Thread nD τ) (0 : CellTallies nD τ sig Unit) W)
      ⊢ runs c (forAll (drain oM (Memref.isWhole_whole _) sM (Memref.isWhole_whole _) zM (Memref.isWhole_whole _) cc0_scratch3 cc0_scratch5 c) chunks)
        fun _ => iprop(know X Y K ∗ bigSep Finset.univ (drainB X Y c) ∗ ∃ W, owes (c : Thread nD τ) (0 : CellTallies nD τ sig Unit) W) := by
  have h := phase_run c (f := drain oM (Memref.isWhole_whole _) sM (Memref.isWhole_whole _) zM (Memref.isWhole_whole _) cc0_scratch3 cc0_scratch5 c)
    (cr := fun _ => 0) (fun O => O = 0) (fun k O h => by rw [h, add_zero])
    (fun k O h => by subst h; rw [add_zero]; exact drain_run X Y K c k) Finset.univ chunks (by decide) (by decide) 0 rfl
  rwa [oweAll_zero, add_zero] at h

/-! ## The products -/

/-- A block of rows is multiplied and stored at f32 and at bf16. -/
theorem multiply_run (b : Fin 2) (fa : Buf (Elt F) (aM.view.loc (c : Thread nD τ))) (fs : Buf (Elt F) (sM.view.loc (c : Thread nD τ))) :
    iprop(xPt c (X c) ∗ wPt c (Y c) ∗ aBlk c b fa ∗ sBlk c b fs)
      ⊢ runs c (multiply xM wM aM sM (Memref.isWhole_whole _) b)
        fun _ => iprop(xPt c (X c) ∗ wPt c (Y c) ∗ aBlk c b (aFun X Y c) ∗ sBlk c b (sFun X Y c)) := by
  have ha : (aBlk c b ((aM.access (blockR b)).write (Elt F) fa
      (k0_pay2 ((xM.access (lhsR b)).read (Elt F) (X c)) ((wM.access rhsR).read (Elt F) (Y c))) Finset.univ) : sProp 𝕄)
      = aBlk c b (aFun X Y c) := by
    rw [read_lhs, read_rhs, ← read_aBlock]
    exact written (aM.access (blockR b)) c fa (aFun X Y c) _ subset_rfl
  have hs : (sBlk c b ((sM.access (blockR b)).write (Elt F) fs
      (k0_pay3 ((xM.access (lhsR b)).read (Elt F) (X c)) ((wM.access rhsR).read (Elt F) (Y c))) Finset.univ) : sProp 𝕄)
      = sBlk c b (sFun X Y c) := by
    rw [read_lhs, read_rhs, ← read_sBlock]
    exact written (sM.access (blockR b)) c fs (sFun X Y c) _ subset_rfl
  unfold multiply
  iintro ⟨Hx, Hw, Ha, Hs⟩
  iapply (wp_load_rect 𝒱₀ (c : Thread nD τ) none Set.univ (m := xM) (r := lhsR b) (Finset.subset_univ _)) $$ Hx
  iintro Hx
  iapply (wp_load_rect 𝒱₀ (c : Thread nD τ) none Set.univ (m := wM) (r := rhsR) (Finset.subset_univ _)) $$ Hw
  iintro Hw
  iapply (wp_load_rect 𝒱₀ (c : Thread nD τ) none Set.univ (m := aM) (r := blockR b) subset_rfl) $$ Ha
  iintro Ha
  iapply (wp_store 𝒱₀ (c : Thread nD τ) none Set.univ (m := aM) (r := blockR b) (View.setOn_univ _).le) $$ Ha
  iintro Ha
  iapply (wp_load_rect 𝒱₀ (c : Thread nD τ) none Set.univ (m := sM) (r := blockR b) subset_rfl) $$ Hs
  iintro Hs
  iapply (wp_store 𝒱₀ (c : Thread nD τ) none Set.univ (m := sM) (r := blockR b) (View.setOn_univ _).le) $$ Hs
  iintro Hs
  iapply ret_run
  imodintro
  isplitl [Hx]; · iexact Hx
  isplitl [Hw]; · iexact Hw
  isplitl [Ha]; · iapply (Entails.of_eq ha); iexact Ha
  iapply (Entails.of_eq hs); iexact Hs

/-! ## The entry barrier -/

/-- What a device lends its neighbour across `z`. -/
theorem giveZ (k : Fin 16) : (lendZ (zn c) k : sProp 𝕄) = iprop((∃ f, zPt c k f) ∗ reached ER (zrCell c k) 0) := by
  unfold lendZ; rw [zn_zn]
/-- What a device lends the partner of chunk `k`. -/
theorem giveP (k : Fin 16) : (lendP (nb k c) k : sProp 𝕄) = iprop((∃ f, oPt c (nb k c) k f) ∗ reached ER (prCell c k) 0) := by
  unfold lendP; rw [nb_nb]

/-- The device lends its receive buffer across `z`. -/
theorem lend_z (f : Buf (Elt F) (zM.view.loc (c : Thread nD τ))) :
    iprop(zAll c f ∗ bigSep Finset.univ fun k => reached ER (zrCell c k) 0) ⊢ (barPay (zn c) 0 : sProp 𝕄) := by
  unfold barPay
  rw [if_pos rfl, zAll_chunks, ← zip]
  refine bigSep_mono fun k _ => ?_
  show (_ : sProp 𝕄) ⊢ _
  rw [giveZ]
  iintro ⟨Hz, Hr⟩
  isplitl [Hz]; · iexists f; iexact Hz
  iexact Hr

/-- The device lends the other half of its result: even chunks across `x`, odd ones across `y`. -/
theorem lend_p (f : Buf (Elt F) (oM.view.loc (c : Thread nD τ))) :
    iprop((bigSep Finset.univ fun k => oPt c (nb k c) k f) ∗ bigSep Finset.univ fun k => reached ER (prCell c k) 0)
      ⊢ (iprop(barPay (xn c) 1 ∗ barPay (yn c) 2) : sProp 𝕄) := by
  have hn : (Finset.univ.filter fun k : Fin 16 => ¬ k.val % 2 + 1 = (1 : Fin 3).val)
      = Finset.univ.filter fun k : Fin 16 => k.val % 2 + 1 = (2 : Fin 3).val := by decide
  have hx : (barPay (xn c) 1 : sProp 𝕄) = bigSep (Finset.univ.filter fun k : Fin 16 => k.val % 2 + 1 = (1 : Fin 3).val) fun k => lendP (nb k c) k := by
    unfold barPay
    rw [if_neg (by decide)]
    refine bigSep_congr fun k hk => ?_
    have hk : k.val % 2 + 1 = 1 := (Finset.mem_filter.mp hk).2
    rw [nb, if_pos (by omega)]
  have hy : (barPay (yn c) 2 : sProp 𝕄) = bigSep (Finset.univ.filter fun k : Fin 16 => k.val % 2 + 1 = (2 : Fin 3).val) fun k => lendP (nb k c) k := by
    unfold barPay
    rw [if_neg (by decide)]
    refine bigSep_congr fun k hk => ?_
    have hk : k.val % 2 + 1 = 2 := (Finset.mem_filter.mp hk).2
    rw [nb, if_neg (by omega)]
  rw [hx, hy, ← hn, ← zip]
  refine BI.Entails.trans ?_ (Entails.of_eq (BI.bigSep_filter_split Finset.univ (fun k : Fin 16 => k.val % 2 + 1 = (1 : Fin 3).val)
    (Φ := fun k => lendP (F := F) (nb k c) k)))
  refine bigSep_mono fun k _ => ?_
  show (_ : sProp 𝕄) ⊢ _
  rw [giveP]
  iintro ⟨Hz, Hr⟩
  isplitl [Hz]; · iexists f; iexact Hz
  iexact Hr

/-- Signalling the three neighbours, with what each is lent. -/
theorem greet_run :
    iprop(know X Y K ∗ (barPay (zn c) 0 ∗ barPay (xn c) 1 ∗ barPay (yn c) 2)
        ∗ (dutyTok ER (barCell (zn c)) 0 0 ∗ dutyTok ER (barCell (xn c)) 0 1 ∗ dutyTok ER (barCell (yn c)) 0 2)
        ∗ (reached ER (barCell (zn c)) 0 ∗ reached ER (barCell (xn c)) 0 ∗ reached ER (barCell (yn c)) 0)
        ∗ ∃ W, owes (c : Thread nD τ) (O₀ c) W)
      ⊢ runs c (greet c) fun _ => iprop(∃ W, owes (c : Thread nD τ) (owedIn c) W) := by
  unfold greet O₀
  rw [dev1_eq, dev2_eq, dev3_eq]
  iintro ⟨#HK, ⟨Hz, Hx, Hy⟩, ⟨Htz, Htx, Hty⟩, ⟨Hrz, Hrx, Hry⟩, ⟨%W, HO⟩⟩
  iapply (Rounds.wp_signal 𝒱₀ ER (Rd X Y) (c : Thread nD τ) none (dst := (zn c : Thread nD τ)) (sem := barSem) (r := 0) (d := 0)
      (κ := K (barCell (zn c))) (bar_duty X Y (zn c) 0) (bar_amount X Y (zn c) 0) () (owedIn c + bOwe (yn c) + bOwe (xn c)) rfl) $$ [HO Htz Hz Hrz]
  · isplitr; · iapply (know_bar X Y K (zn c)); iexact HK
    isplitl [HO]; · iexact HO
    isplitl [Htz]; · iexact Htz
    isplitl [Hz]; · rw [bar_payload]; iexact Hz
    iexact Hrz
  iintro HO
  iapply (Rounds.wp_signal 𝒱₀ ER (Rd X Y) (c : Thread nD τ) none (dst := (xn c : Thread nD τ)) (sem := barSem) (r := 0) (d := 1)
      (κ := K (barCell (xn c))) (bar_duty X Y (xn c) 1) (bar_amount X Y (xn c) 1) () (owedIn c + bOwe (yn c)) rfl) $$ [HO Htx Hx Hrx]
  · isplitr; · iapply (know_bar X Y K (xn c)); iexact HK
    isplitl [HO]; · iexact HO
    isplitl [Htx]; · iexact Htx
    isplitl [Hx]; · rw [bar_payload]; iexact Hx
    iexact Hrx
  iintro HO
  iapply (Rounds.wp_signal 𝒱₀ ER (Rd X Y) (c : Thread nD τ) none (dst := (yn c : Thread nD τ)) (sem := barSem) (r := 0) (d := 2)
      (κ := K (barCell (yn c))) (bar_duty X Y (yn c) 2) (bar_amount X Y (yn c) 2) () (owedIn c) rfl) $$ [HO Hty Hy Hry]
  · isplitr; · iapply (know_bar X Y K (yn c)); iexact HK
    isplitl [HO]; · iexact HO
    isplitl [Hty]; · iexact Hty
    isplitl [Hy]; · rw [bar_payload]; iexact Hy
    iexact Hry
  iintro HO
  iapply ret_run
  imodintro
  iexists W; iexact HO

/-- Waiting for the three neighbours: what each lends comes in, and the barrier is over. -/
theorem barrier_run :
    iprop(know X Y K ∗ cred (tallyAt (barCell c) () 3) ∗ atPos ER (barCell c) 0 ∅ 0 ∗ ∃ W, owes (c : Thread nD τ) (owedIn c) W)
      ⊢ runs c (semWaitWord barSem 3#32) fun _ => iprop(((bigSep Finset.univ fun k => lendZ c k) ∗ bigSep Finset.univ fun k => lendP c k)
          ∗ semVal (barCell c) 0 ∗ ∃ W, owes (c : Thread nD τ) (owedIn c) W) := by
  iintro ⟨#HK, Hc, Hat, ⟨%W, HO⟩⟩
  iapply (Rounds.wp_wait_rest_token 𝒱₀ ER (Rd X Y) (c : Thread nD τ) none (κ := K (barCell c))
      (wpE_semWait_eq 𝒱₀ (c : Thread nD τ) none Set.univ) (Set.mem_univ _) () (O := owedIn c) (W := W) (R := 0) (m := 0) (T := ∅)
      ((Nat.zero_add 3).trans (bar_expect X Y c).symm)) $$ [Hc HO Hat]
  · isplitr; · iapply (know_bar X Y K c); iexact HK
    isplitl [Hc]; · iexact Hc
    isplitl [HO]; · iexact HO
    isplitr; · iapply (mayWait c (.reg barSem) _ (above_in c)); iapply (know_lev X Y K); iexact HK
    iexact Hat
  iintro ⟨HO, Hat, -, Hpay⟩
  ihave Hp := (Entails.of_eq (bar_rest X Y c)) $$ Hpay
  iapply ret_run
  imod (close X Y (K (barCell c)) (barCell c)) $$ [Hat] with Hv
  · isplitr; · iapply (know_bar X Y K c); iexact HK
    iexact Hat
  imodintro
  isplitl [Hp]; · iexact Hp
  isplitl [Hv]; · iexact Hv
  iexists _; iexact HO

/-! ## What a device starts with, chunk by chunk -/

/-- Chunk `k`'s tokens of the first exchange. -/
def sendTok (k : Fin 16) : sProp 𝕄 :=
  iprop(dutyTok ER (zsCell c k) 0 0 ∗ dutyTok ER (zrCell (zn c) k) 0 0 ∗ reached ER (zsCell c k) 0)
/-- Chunk `k`'s tokens of the second exchange. -/
def redTok (k : Fin 16) : sProp 𝕄 :=
  iprop(dutyTok ER (psCell c k) 0 0 ∗ dutyTok ER (prCell (nb k c) k) 0 0 ∗ reached ER (psCell c k) 0)
/-- Chunk `k`'s claim to the first exchange's receipt. -/
def redWait (k : Fin 16) : sProp 𝕄 := iprop(cred (tallyAt (zrCell c k) () N) ∗ atPos ER (zrCell c k) 0 ∅ 0)
/-- Chunk `k`'s places at the two send semaphores. -/
def drainPos (k : Fin 16) : sProp 𝕄 := iprop(atPos ER (zsCell c k) 0 ∅ 0 ∗ atPos ER (psCell c k) 0 ∅ 0)
/-- Tokens, positions and credit of chunk `k`. -/
def mine (k : Fin 16) : sProp 𝕄 :=
  iprop(sendTok c k ∗ redTok c k ∗ redWait c k ∗ colA c k ∗ drainPos c k ∗ reached ER (zrCell c k) 0 ∗ reached ER (prCell c k) 0)

/-- What the sends start from, chunk by chunk. -/
theorem sendA_of (S : Finset (Fin 16)) :
    iprop((bigSep S fun k => sPt c k (sFun X Y c)) ∗ (bigSep S fun k => lendZ c k) ∗ bigSep S (sendTok c)) ⊢ bigSep S (sendA X Y c) := by
  rw [← zip, ← zip]
  exact bigSep_mono fun k _ => BI.Entails.refl _

/-- What the reductions start from, chunk by chunk. -/
theorem redA_of (f : Buf (Elt F) (oM.view.loc (c : Thread nD τ))) (S : Finset (Fin 16)) :
    iprop(bigSep S (redWait c) ∗ (bigSep S fun k => oPt c c k f) ∗ (bigSep S fun k => lendP c k) ∗ bigSep S (redTok c)) ⊢ bigSep S (redA (F := F) c) := by
  rw [← zip, ← zip, ← zip]
  refine bigSep_mono fun k _ => ?_
  show (_ : sProp 𝕄) ⊢ _
  unfold redWait redTok redA
  iintro ⟨⟨Hc, Hat⟩, Ho, Hl, Ht⟩
  isplitl [Hc]; · iexact Hc
  isplitl [Hat]; · iexact Hat
  isplitl [Ho]; · iexists f; iexact Ho
  isplitl [Hl]; · iexact Hl
  iexact Ht

/-- What the drains start from, chunk by chunk. -/
theorem drainA_of (S : Finset (Fin 16)) :
    iprop(bigSep S (sendB c) ∗ (bigSep S fun k => cred (tallyAt (psCell c k) () N)) ∗ bigSep S (drainPos c)) ⊢ bigSep S (drainA (F := F) c) := by
  rw [← zip, ← zip]
  exact bigSep_mono fun k _ => BI.Entails.refl _

/-- What the reductions leave, part by part. -/
theorem redB_apart (S : Finset (Fin 16)) : bigSep S (redB X Y c)
    = iprop((bigSep S fun k => cred (tallyAt (psCell c k) () N)) ∗ (bigSep S fun k => zPt c k (zFun X Y c)) ∗ bigSep S fun k => semVal (zrCell c k) 0) := by
  rw [← zip, ← zip]; rfl
/-- What the collections leave, part by part. -/
theorem colB_apart (S : Finset (Fin 16)) : bigSep S (colB X Y c)
    = iprop((bigSep S fun k => oPt c (nb k c) k (outFun X Y c)) ∗ bigSep S fun k => semVal (prCell c k) 0) := by
  rw [← zip]; rfl
/-- What the drains leave, part by part. -/
theorem drainB_apart (S : Finset (Fin 16)) : bigSep S (drainB X Y c)
    = iprop((bigSep S fun k => sPt c k (sFun X Y c)) ∗ (bigSep S fun k => oPt c c k (outFun X Y c))
      ∗ (bigSep S fun k => semVal (zsCell c k) 0) ∗ bigSep S fun k => semVal (psCell c k) 0) := by
  rw [← zip, ← zip, ← zip]; rfl
/-- What a device holds for its chunks, part by part. -/
theorem mine_apart (S : Finset (Fin 16)) : bigSep S (mine (F := F) c)
    = iprop(bigSep S (sendTok c) ∗ bigSep S (redTok c) ∗ bigSep S (redWait c) ∗ bigSep S (colA c) ∗ bigSep S (drainPos c)
      ∗ (bigSep S fun k => reached ER (zrCell c k) 0) ∗ bigSep S fun k => reached ER (prCell c k) 0) := by
  rw [← zip, ← zip, ← zip, ← zip, ← zip, ← zip]; rfl

/-- A device's own semaphores at zero, family by family. -/
theorem ownSems_eq : (Pipeline.ownSems0 osem c : sProp 𝕄)
    = iprop((bigSep Finset.univ fun k => semVal (zsCell c k) 0) ∗ (bigSep Finset.univ fun k => semVal (zrCell c k) 0)
      ∗ (bigSep Finset.univ fun k => semVal (psCell c k) 0) ∗ bigSep Finset.univ fun k => semVal (prCell c k) 0) := by
  unfold Pipeline.ownSems0
  rw [bigSep_univ_prod]
  exact bigSep_univ_eq_bigSepL (Φ := fun a : Fin 4 => bigSep Finset.univ fun k : Fin 16 => (semVal ((c : Thread nD τ), osem (a, k)) 0 : sProp 𝕄))
    [0, 1, 2, 3] (by decide) (by decide)

/-! ## The body -/

/-- A device's share of the protocol when the kernel starts. -/
def share : sProp 𝕄 :=
  iprop((cred (tallyAt (barCell c) () 3) ∗ atPos ER (barCell c) 0 ∅ 0)
    ∗ (dutyTok ER (barCell (zn c)) 0 0 ∗ dutyTok ER (barCell (xn c)) 0 1 ∗ dutyTok ER (barCell (yn c)) 0 2)
    ∗ (reached ER (barCell (zn c)) 0 ∗ reached ER (barCell (xn c)) 0 ∗ reached ER (barCell (yn c)) 0)
    ∗ bigSep Finset.univ (mine c))

/-- The kernel's own buffers. -/
def scratch : sProp 𝕄 := iprop((∃ f, aPt c f) ∗ (∃ f, sAll c f) ∗ ∃ f, zAll c f)

/-- What the body starts from. -/
def bodyPre : sProp 𝕄 :=
  iprop(know X Y K ∗ share c ∗ scratch c ∗ xPt c (X c) ∗ wPt c (Y c) ∗ (∃ f, oAll c f) ∗ ∃ W, owes (c : Thread nD τ) (O₀ c) W)
/-- At the end the result is complete, every semaphore is at zero and nothing is owed. -/
def bodyPost : sProp 𝕄 :=
  iprop(semVal (barCell c) 0 ∗ Pipeline.ownSems0 osem c ∗ scratch c ∗ xPt c (X c) ∗ wPt c (Y c) ∗ oAll c (outFun X Y c)
    ∗ ∃ W, owes (c : Thread nD τ) (0 : CellTallies nD τ sig Unit) W)

/-- The body runs on one device and leaves the result complete. -/
theorem body_run (Kt : PUnit → sProp 𝕄) :
    iprop(bodyPre X Y K c ∗ (bodyPost X Y c -∗ Kt ⟨⟩))
      ⊢ runs c (onDevice xM wM oM (Memref.isWhole_whole _) aM sM (Memref.isWhole_whole _) zM (Memref.isWhole_whole _)
          cc0_scratch3 cc0_scratch4 cc0_scratch5 cc0_scratch6 c) Kt := by
  unfold bodyPre share scratch onDevice
  rw [mine_apart]
  iintro ⟨⟨#HK, ⟨⟨Hcb, Hab⟩, Htoks, Hrs, Hst, Hrt, Hrw, Hca, Hdp, Hrz, Hrp⟩, ⟨⟨%fa, Ha⟩, ⟨%fs, Hs⟩, ⟨%fz, Hz⟩⟩, Hx, Hw, ⟨%fo, Ho⟩, HO⟩, Hk⟩
  -- the entry barrier's signals
  ihave Ho := (Entails.of_eq (oAll_chunks c fo)) $$ Ho
  icases Ho with ⟨Hown, Hoth⟩
  ihave Hlz := (lend_z c fz) $$ [Hz Hrz]
  · isplitl [Hz]; · iexact Hz
    iexact Hrz
  ihave Hlp := (lend_p c fo) $$ [Hoth Hrp]
  · isplitl [Hoth]; · iexact Hoth
    iexact Hrp
  iapply (then_run (greet_run X Y K c)) $$ [Hlz Hlp Htoks Hrs HO]
  · isplitr; · iexact HK
    isplitl [Hlz Hlp]
    · isplitl [Hlz]; · iexact Hlz
      iexact Hlp
    isplitl [Htoks]; · iexact Htoks
    isplitl [Hrs]; · iexact Hrs
    iexact HO
  iintro HO
  -- the first block
  ihave Ha := (Entails.of_eq (aPt_blocks c fa)) $$ Ha
  icases Ha with ⟨Ha0, Ha1⟩
  ihave Hs := (Entails.of_eq (sAll_blocks c fs)) $$ Hs
  icases Hs with ⟨Hs0, Hs1⟩
  iapply (then_run (multiply_run X Y c 0 fa fs)) $$ [Hx Hw Ha0 Hs0]
  · isplitl [Hx]; · iexact Hx
    isplitl [Hw]; · iexact Hw
    isplitl [Ha0]; · iexact Ha0
    iexact Hs0
  iintro ⟨Hx, Hw, Ha0, Hs0⟩
  -- the barrier
  iapply (then_run (barrier_run X Y K c)) $$ [Hcb Hab HO]
  · isplitr; · iexact HK
    isplitl [Hcb]; · iexact Hcb
    isplitl [Hab]; · iexact Hab
    iexact HO
  iintro ⟨⟨Hlz, Hlp⟩, Hvb, HO⟩
  ihave Hlz := (Entails.of_eq (blocks_eq (fun k => lendZ c k))) $$ Hlz
  icases Hlz with ⟨Hlz0, Hlz1⟩
  ihave Hst := (Entails.of_eq (blocks_eq (sendTok c))) $$ Hst
  icases Hst with ⟨Hst0, Hst1⟩
  ihave Hs0 := (Entails.of_eq (sBlk_chunks c 0 (sFun X Y c))) $$ Hs0
  ihave HA := (sendA_of X Y c (inBlk 0)) $$ [Hs0 Hlz0 Hst0]
  · isplitl [Hs0]; · iexact Hs0
    isplitl [Hlz0]; · iexact Hlz0
    iexact Hst0
  iapply (then_run (sends_run X Y K c (inBlk 0) chunksLo (by decide) (by decide) (oweAll (pOwe c) chunks + oweAll (zOwe c) chunksHi))) $$ [HA HO]
  · isplitr; · iexact HK
    isplitl [HA]; · iexact HA
    iexact HO
  iintro ⟨-, Hsb0, HO⟩
  -- the second block
  iapply (then_run (multiply_run X Y c 1 fa fs)) $$ [Hx Hw Ha1 Hs1]
  · isplitl [Hx]; · iexact Hx
    isplitl [Hw]; · iexact Hw
    isplitl [Ha1]; · iexact Ha1
    iexact Hs1
  iintro ⟨Hx, Hw, Ha1, Hs1⟩
  ihave Hs1 := (Entails.of_eq (sBlk_chunks c 1 (sFun X Y c))) $$ Hs1
  ihave HA := (sendA_of X Y c (inBlk 1)) $$ [Hs1 Hlz1 Hst1]
  · isplitl [Hs1]; · iexact Hs1
    isplitl [Hlz1]; · iexact Hlz1
    iexact Hst1
  iapply (then_run (sends_run X Y K c (inBlk 1) chunksHi (by decide) (by decide) (oweAll (pOwe c) chunks))) $$ [HA HO]
  · isplitr; · iexact HK
    isplitl [HA]; · iexact HA
    iexact HO
  iintro ⟨-, Hsb1, HO⟩
  -- the sums
  ihave Ha := (Entails.of_eq (aPt_blocks c (aFun X Y c)).symm) $$ [Ha0 Ha1]
  · isplitl [Ha0]; · iexact Ha0
    iexact Ha1
  ihave HA := (redA_of c fo Finset.univ) $$ [Hrw Hown Hlp Hrt]
  · isplitl [Hrw]; · iexact Hrw
    isplitl [Hown]; · iexact Hown
    isplitl [Hlp]; · iexact Hlp
    iexact Hrt
  iapply (then_run (reduces_run X Y K c)) $$ [Ha HA HO]
  · isplitl [Ha]
    · isplitr; · iexact HK
      iexact Ha
    isplitl [HA]; · iexact HA
    rw [zero_add]; iexact HO
  rw [redB_apart]
  iintro ⟨⟨-, Ha⟩, ⟨Hcp, Hz, Hvz⟩, HO⟩
  -- the other half
  iapply (then_run (collects_run X Y K c)) $$ [Hca HO]
  · isplitr; · iexact HK
    isplitl [Hca]; · iexact Hca
    iexact HO
  rw [colB_apart]
  iintro ⟨-, ⟨Hoth, Hvp⟩, HO⟩
  -- the sources
  ihave Hsb := (Entails.of_eq (blocks_eq (sendB (F := F) c)).symm) $$ [Hsb0 Hsb1]
  · isplitl [Hsb0]; · iexact Hsb0
    iexact Hsb1
  ihave HA := (drainA_of c Finset.univ) $$ [Hsb Hcp Hdp]
  · isplitl [Hsb]; · iexact Hsb
    isplitl [Hcp]; · iexact Hcp
    iexact Hdp
  ihave H := (drains_run X Y K c) $$ [HA HO]
  · isplitr; · iexact HK
    isplitl [HA]; · iexact HA
    iexact HO
  iapply (wp_wand frame (wpE (defs₀ (F := F)) 𝒱₀ (c : Thread nD τ) none) Set.univ) $$ H
  rw [drainB_apart]
  iintro %a ⟨-, ⟨Hs, Hown, Hvs, Hvq⟩, HO⟩
  iapply Hk
  unfold bodyPost scratch
  rw [ownSems_eq, oAll_chunks]
  isplitl [Hvb]; · iexact Hvb
  isplitl [Hvs Hvz Hvq Hvp]
  · isplitl [Hvs]; · iexact Hvs
    isplitl [Hvz]; · iexact Hvz
    isplitl [Hvq]; · iexact Hvq
    iexact Hvp
  isplitl [Ha Hs Hz]
  · isplitl [Ha]; · iexists _; iexact Ha
    isplitl [Hs]
    · iexists (sFun X Y c); iapply (Entails.of_eq (sAll_chunks c (sFun X Y c)).symm); iexact Hs
    iexists (zFun X Y c); iapply (Entails.of_eq (zAll_chunks c (zFun X Y c)).symm); iexact Hz
  isplitl [Hx]; · iexact Hx
  isplitl [Hw]; · iexact Hw
  isplitl [Hown Hoth]
  · isplitl [Hown]; · iexact Hown
    iexact Hoth
  iexact HO

end run

end Cert.KernelIdeal.Chunked

end
-- ==== Proof.KernelIdeal.Region.lean ====
module

public import proofs.«01_k».proof.Proof.KernelIdeal.Body
public import proofs.«01_k».proof.Proof.Gen.KernelIdeal.Points
public import proofs.«01_k».proof.Proof.Gen.KernelIdeal.Regions
public import Idealize.ShloMosaic.Lib.Rounds.Family
public import Idealize.ShloMosaic.Lib.Pipeline.TalkSched
public import Idealize.ShloMosaic.Lib.Pipeline.Value

/-! The kernel as a region of the program: what its windows hold, what it starts from and what it leaves. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What a device is given at launch -/

section start

variable (c : Dev nD)

/-- The duties that device `c` pays on the neighbours' barriers. -/
def barToks : sProp 𝕄 :=
  iprop(dutyTok ER (barCell (zn c)) 0 0 ∗ dutyTok ER (barCell (xn c)) 0 1 ∗ dutyTok ER (barCell (yn c)) 0 2)
/-- The duties that its two copies of chunk `k` pay. -/
def chunkToks (k : Fin 16) : sProp 𝕄 :=
  iprop(dutyTok ER (zsCell c k) 0 0 ∗ dutyTok ER (zrCell (zn c) k) 0 0 ∗ dutyTok ER (psCell c k) 0 0 ∗ dutyTok ER (prCell (nb k c) k) 0 0)
/-- The credit for the two copies of chunk `k` that reach it. -/
def chunkCreds (k : Fin 16) : sProp 𝕄 :=
  iprop(cred (tallyAt (zrCell c k) () N) ∗ cred (tallyAt (prCell c k) () N))
/-- The three neighbours' barriers stand at their first round. -/
def barReached : sProp 𝕄 :=
  iprop(reached ER (barCell (zn c)) 0 ∗ reached ER (barCell (xn c)) 0 ∗ reached ER (barCell (yn c)) 0)
/-- The rights to open its own cells. -/
def dormant : sProp 𝕄 := bigSep Finset.univ fun p => openTok ER (ownCell c p)

section cells

variable (X : Dev nD → Vec F S256x2048 .bf16) (Y : Dev nD → Vec F S512x2048 .bf16)

/-- What device `c` keeps from launch until the kernel starts. -/
def start : sProp 𝕄 :=
  iprop((∃ K, invs X Y K)
    ∗ (cred (tallyAt (barCell c) () 3) ∗ atPos ER (barCell c) 0 ∅ 0)
    ∗ barToks c ∗ barReached c ∗ dormant c
    ∗ (bigSep Finset.univ (chunkToks c)) ∗ bigSep Finset.univ (chunkCreds c))

/-- What it has when the kernel's cells are open. -/
def ready : sProp 𝕄 := iprop((∃ K, know X Y K) ∗ share c)

end cells

/-- A family over a device's own cells, chunk by chunk. -/
theorem own_chunks (Φ : Fin 4 × Fin 16 → sProp 𝕄) :
    bigSep Finset.univ Φ = bigSep Finset.univ fun k : Fin 16 => iprop(Φ (0, k) ∗ Φ (1, k) ∗ Φ (2, k) ∗ Φ (3, k)) := by
  rw [zip, zip, zip, bigSep_univ_prod]
  exact bigSep_univ_eq_bigSepL (Φ := fun a : Fin 4 => bigSep Finset.univ fun k : Fin 16 => Φ (a, k)) [0, 1, 2, 3] (by decide) (by decide)

/-- What opening a cell gives. -/
def fresh (p : Fin 4 × Fin 16) : sProp 𝕄 := iprop(atPos ER (ownCell c p) 0 ∅ 0 ∗ reached ER (ownCell c p) 0)

/-- Tokens, credits and fresh places of chunk `k` are what its steps need. -/
theorem mine_of (k : Fin 16) :
    iprop(chunkToks c k ∗ chunkCreds c k ∗ (fresh c (0, k) ∗ fresh c (1, k) ∗ fresh c (2, k) ∗ fresh c (3, k))) ⊢ mine (F := F) c k := by
  unfold chunkToks chunkCreds fresh mine sendTok redTok redWait colA drainPos
  iintro ⟨⟨Hzs, Hzr, Hps, Hpr⟩, ⟨Hcz, Hcp⟩, ⟨Az, Rz⟩, ⟨Ay, Ry⟩, ⟨Ap, Rp⟩, ⟨Aq, Rq⟩⟩
  isplitl [Hzs Hzr Rz]
  · isplitl [Hzs]; · iexact Hzs
    isplitl [Hzr]; · iexact Hzr
    iexact Rz
  isplitl [Hps Hpr Rp]
  · isplitl [Hps]; · iexact Hps
    isplitl [Hpr]; · iexact Hpr
    iexact Rp
  isplitl [Hcz Ay]
  · isplitl [Hcz]; · iexact Hcz
    iexact Ay
  isplitl [Hcp Aq]
  · isplitl [Hcp]; · iexact Hcp
    iexact Aq
  isplitl [Az Ap]
  · isplitl [Az]; · iexact Az
    iexact Ap
  isplitl [Ry]; · iexact Ry
  iexact Rq

/-- Chunk by chunk, what was dealt and what opening gave make up a device's share. -/
theorem mines_of :
    iprop((bigSep Finset.univ (chunkToks c)) ∗ (bigSep Finset.univ (chunkCreds c)) ∗ bigSep Finset.univ (fresh c))
      ⊢ bigSep Finset.univ (mine (F := F) c) := by
  rw [own_chunks, ← zip, ← zip]
  exact bigSep_mono fun k _ => mine_of c k

/-- Each own semaphore's invariant beside the token that opens it. -/
theorem invs_dormant (X : Dev nD → Vec F S256x2048 .bf16) (Y : Dev nD → Vec F S512x2048 .bf16) (K : GSem nD τ sig → ℕ) :
    iprop(invs X Y K ∗ dormant c)
      ⊢ bigSep Finset.univ fun p : Fin 4 × Fin 16 => iprop(cellInv ER (Rd X Y) (K (ownCell c p)) (ownCell c p) ∗ openTok ER (ownCell c p)) := by
  unfold dormant
  have hp (p : Fin 4 × Fin 16) : iprop(invs X Y K ∗ openTok ER (ownCell c p))
      ⊢ (iprop(cellInv ER (Rd X Y) (K (ownCell c p)) (ownCell c p) ∗ openTok ER (ownCell c p)) : sProp 𝕄) := by
    refine sep_mono_left ?_
    unfold invs
    exact sep_elim_right.trans
      (bigSep_elim (Φ := fun p : Dev nD × (Fin 4 × Fin 16) => cellInv ER (Rd X Y) (K (ownCell p.1 p.2)) (ownCell p.1 p.2))
        (Finset.mem_univ (c, p)))
  exact bigSep_with_persistent (R := invs X Y K) (Φ := fun p => openTok ER (ownCell c p)) fun p _ => hp p

/-- The kernel starts: with its semaphores at zero a device opens its own cells. -/
theorem open_run (X : Dev nD → Vec F S256x2048 .bf16) (Y : Dev nD → Vec F S512x2048 .bf16) :
    iprop(start c X Y ∗ Pipeline.ownSems0 osem c ∗ levAts L lv) ⊢ (|={Set.univ}=> ready c X Y : sProp 𝕄) := by
  unfold start ready know share barToks barReached Pipeline.ownSems0
  iintro ⟨⟨⟨%K, #HI⟩, Hbar, Htok, Hre, Hd, Hct, Hcc⟩, Hv, #Hlev⟩
  ihave Hd := (invs_dormant c X Y K) $$ [Hd]
  · isplitr; · iexact HI
    iexact Hd
  imod (Rounds.cells_open ER (Rd X Y) Finset.univ (ownCell c) (fun p => K (ownCell c p)) (Es := Set.univ) fun _ _ => Set.mem_univ _) $$ [Hd Hv] with Hf
  · isplitl [Hd]; · iexact Hd
    iexact Hv
  imodintro
  isplitr
  · iexists K
    isplitr; · iexact HI
    iexact Hlev
  isplitl [Hbar]; · iexact Hbar
  isplitl [Htok]; · iexact Htok
  isplitl [Hre]; · iexact Hre
  iapply (mines_of c)
  isplitl [Hct]; · iexact Hct
  isplitl [Hcc]; · iexact Hcc
  iexact Hf

end start

/-! ## The windows and the invariant -/

variable (m : (ℓ : Loc nD τ sig) → Buf (Elt F) ℓ)

/-- Device `c`'s operands when the kernel starts. -/
def lhs (c : Dev nD) : Vec F S256x2048 .bf16 := V3 m c main_v16
/-- The right factor. -/
def rhs (c : Dev nD) : Vec F S512x2048 .bf16 := V3 m c main_v17
/-- The result. -/
abbrev res (c : Dev nD) : Vec F S512x512 .bf16 := outFun (lhs m) (rhs m) c

/-- Before the kernel's one point, and after it. -/
def before (c : Dev nD) : sProp 𝕄 := iprop(ready c (lhs m) (rhs m) ∗ scratch c ∗ ∃ r, prngReg c r)
/-- What a device holds, beside its buffers, once the call is over. -/
def done (c : Dev nD) : sProp 𝕄 := iprop(semVal (barCell c) 0 ∗ Pipeline.ownSems0 osem c ∗ scratch c ∗ ∃ r, prngReg c r)

/-- The call's arrays before and after, and what is carried across it. -/
def dat (c : Dev nD) : Pipeline.Dat τ (Elt F) Unit ℕ UU ℕ cfg0 c where
  A w := match w with
    | ⟨0, _⟩ => lhs m c
    | ⟨1, _⟩ => rhs m c
    | ⟨2, _⟩ => V3 m c main_v18
  after w _ := match w with
    | ⟨0, _⟩ => lhs m c
    | ⟨1, _⟩ => rhs m c
    | ⟨2, _⟩ => res m c
  Φ t := match t with
    | ⟨0, _⟩ => before m c
    | ⟨_ + 1, _⟩ => done c
  q _ := fullShare
  owed t := match t with
    | ⟨0, _⟩ => O₀ c
    | ⟨_ + 1, _⟩ => 0

/-- The same for each of the program's calls, of which there is one. -/
abbrev pdats (p : Fin 1) (c : Dev nD) : Pipeline.Dat τ (Elt F) Unit ℕ UU ℕ (cfgs p) c := match p with | 0 => dat m c

/-- A window that is the whole of an array has the array's own indices. -/
theorem whole_emb {s : Shape} {e : EltTy} {cs : CoreSpace} (arr : Memref sig .tc .hbm s e) (io sy : Bool)
    (st : Memref sig .tc (.core cs) ⟨s.rank, s.size⟩ e) (sm : DmaSem sig) (h : arr.IsWhole) (h' : st.IsWhole) (t : Fin Pipeline.Grid.none.N)
    (j : s.Idx) : ((Pipeline.Window.whole arr io sy st sm h h').blk t).view.emb j = arr.view.emb j := by
  show arr.view.emb (((Pipeline.Window.whole arr io sy st sm h h').rect t).emb j) = _
  congr 1
  funext a; apply Fin.ext
  show 0 * _ + 1 * (j a).val = (j a).val
  omega

/-- Reading such a window reads the array. -/
theorem whole_blk {s : Shape} {e : EltTy} {cs : CoreSpace} (arr : Memref sig .tc .hbm s e) (io sy : Bool)
    (st : Memref sig .tc (.core cs) ⟨s.rank, s.size⟩ e) (sm : DmaSem sig) (h : arr.IsWhole) (h' : st.IsWhole) (t : Fin Pipeline.Grid.none.N)
    (A : arr.view.ty.Contents (Elt F)) :
    ((Pipeline.Window.whole arr io sy st sm h h').blk t).view.read (Elt F) A = arr.view.read (Elt F) A := by
  funext j
  rw [View.read_apply, View.read_apply]
  exact congrArg (fun i => cast _ (A i)) (whole_emb arr io sy st sm h h' t j)

/-- The left factor's one block is the whole of it. -/
theorem read_v16 (t : Fin cfg0.N) (A : Vec F S256x2048 .bf16) : (win0_0.blk t).view.read (Elt F) A = A :=
  whole_blk (Memref.whole main_v16) _ _ _ _ _ _ t A
/-- The right factor's one block is the whole of it. -/
theorem read_v17 (t : Fin cfg0.N) (A : Vec F S512x2048 .bf16) : (win0_1.blk t).view.read (Elt F) A = A :=
  whole_blk (Memref.whole main_v17) _ _ _ _ _ _ t A
/-- The result's one block is the whole of it. -/
theorem read_v18 (t : Fin cfg0.N) (A : Vec F S512x512 .bf16) : (win0_2.blk t).view.read (Elt F) A = A :=
  whole_blk (Memref.whole main_v18) _ _ _ _ _ _ t A

/-- The body finds the left factor. -/
theorem found_lhs (c : Dev nD) (d) : (dat m c).before (0 : Fin 3) t0_0 d = lhs m c := by
  unfold Pipeline.Dat.before; rw [if_pos (fetch0_0 t0_0)]
  exact read_v16 t0_0 (lhs m c)
/-- The body finds the right factor. -/
theorem found_rhs (c : Dev nD) (d) : (dat m c).before (1 : Fin 3) t0_0 d = rhs m c := by
  unfold Pipeline.Dat.before; rw [if_pos (fetch0_1 t0_0)]
  exact read_v17 t0_0 (rhs m c)

/-- The result's array at the end: what the kernel left in its window. -/
theorem result_at (c : Dev nD) : (dat m c).arrAt (2 : Fin 3) cfg0.N = res m c :=
  (dat m c).arrAt_eq_of_cover (2 : Fin 3) (res m c) (fun t _ => (read_v18 t (res m c)).symm)
    fun i => ⟨t0_0, flush0_2 t0_0, by
      show i ∈ (win0_2.blk t0_0).view.set
      exact Finset.mem_map.mpr ⟨i, Finset.mem_univ _, whole_emb (Memref.whole main_v18) _ _ _ _ _ _ t0_0 i⟩⟩

/-- The call has three windows. -/
theorem bigSep_windows (Φ : Fin cfg0.W → sProp 𝕄) : bigSep Finset.univ Φ = iprop(Φ (0 : Fin 3) ∗ Φ (1 : Fin 3) ∗ Φ (2 : Fin 3)) := bigSep_W0 Φ

/-- What the body finds and what it leaves. -/
def found (c : Dev nD) : sProp 𝕄 :=
  iprop(before m c ∗ (dat m c).owesAt () t0_0.castSucc
    ∗ (∃ d, (c : Thread nD τ).loc cc0_stg0_0 ↦{fullShare} ((dat m c).before (0 : Fin 3) t0_0 d))
    ∗ (∃ d, (c : Thread nD τ).loc cc0_stg1_0 ↦{fullShare} ((dat m c).before (1 : Fin 3) t0_0 d))
    ∗ (∃ d, (c : Thread nD τ).loc cc0_stg2_0 ↦{fullShare} ((dat m c).before (2 : Fin 3) t0_0 d)))
/-- What the body leaves. -/
def left (c : Dev nD) : sProp 𝕄 :=
  iprop(done c ∗ (dat m c).owesAt () t0_0.succ
    ∗ ((c : Thread nD τ).loc cc0_stg0_0 ↦{fullShare} lhs m c)
    ∗ ((c : Thread nD τ).loc cc0_stg1_0 ↦{fullShare} rhs m c)
    ∗ ((c : Thread nD τ).loc cc0_stg2_0 ↦{fullShare} res m c))

/-- The call's body runs from what it finds to what it leaves. -/
theorem found_run (c : Dev nD) : found m c ⊢ runs c (cc0_body xM (Memref.isWhole_whole _) wM (Memref.isWhole_whole _) oM (Memref.isWhole_whole _) aM
      (Memref.isWhole_whole _) sM (Memref.isWhole_whole _) zM (Memref.isWhole_whole _) cc0_scratch3 cc0_scratch4 cc0_scratch5 cc0_scratch6)
    fun _ => left m c := by
  unfold found before ready
  iintro ⟨⟨⟨⟨%K, #Hk⟩, Hsh⟩, Hsc, Hg⟩, Ho, ⟨%d0, Hx⟩, ⟨%d1, Hw⟩, ⟨%d2, Hr⟩⟩
  rw [found_lhs, found_rhs, body_eq]
  unfold runs
  rw [wp_deviceId]
  ihave Ho := (TalkSites.owesAt_elim (dat m c) () t0_0.castSucc (O₀ c) rfl) $$ Ho
  iapply (body_run (lhs m) (rhs m) K c fun _ => left m c)
  unfold bodyPre
  isplitr [Hg]
  · isplitr; · iexact Hk
    isplitl [Hsh]; · iexact Hsh
    isplitl [Hsc]; · iexact Hsc
    isplitl [Hx]; · iexact Hx
    isplitl [Hw]; · iexact Hw
    isplitl [Hr]; · iexists _; iexact Hr
    iexact Ho
  unfold bodyPost left done
  iintro ⟨Hb, Hs, Hsc, Hx, Hw, Hr, ⟨%W, Ho⟩⟩
  isplitr [Ho Hx Hw Hr]
  · isplitl [Hb]; · iexact Hb
    isplitl [Hs]; · iexact Hs
    isplitl [Hsc]; · iexact Hsc
    iexact Hg
  isplitl [Ho]
  · iapply (TalkSites.owesAt_intro (dat m c) () t0_0.succ 0 rfl rfl W); iexact Ho
  isplitl [Hx]; · iexact Hx
  isplitl [Hw]; · iexact Hw
  iexact Hr

set_option maxRecDepth 65536 in
/-- The body meets the pipeline: the windows in, the windows out. -/
theorem obligation (c : Dev nD) : Pipeline.BodyObligation (dat (F := F) m c) (defs₀ (F := F)) 𝒱₀ () Set.univ := fun t => by
  rw [fin_N0 t, bigSep_windows, bigSep_windows]
  simp only [Idealize.ShloMosaic.owns_whole]
  exact found_run m c

end Cert.KernelIdeal.Chunked

end
-- ==== Proof.KernelIdeal.Record.lean ====
module

public import proofs.«01_k».proof.Proof.KernelIdeal.Region

/-! The kernel's region of the program: entered from the operands, left with the result. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- A device's buffers after the kernel: as before it, but for the result. -/
abbrev final (c : Dev nD) : Valuation τ sig (Elt F) := Function.update (V3 m c) main_v18 (res m c)

/-- Every buffer but the result ends as the host operations left it. -/
theorem final_of (c : Dev nD) (r : Ref sig .tc) (h : r ≠ main_v18) : final m c r = V3 m c r :=
  Function.update_of_ne (StableHlo.devRef_ne_of_ne h : (Proc.devRef .tc r : DevRef τ sig) ≠ Proc.devRef .tc main_v18) _ _
/-- The result ends with its contents. -/
theorem final_result (c : Dev nD) : final m c main_v18 = res m c := Function.update_self _ _ _

/-- The first argument ends as it began. -/
theorem final_arg0 (c : Dev nD) : final m c main_arg0 = m ((c : Thread nD τ).loc main_arg0) :=
  (final_of m c main_arg0 (by decide)).trans <| (V3_of m c main_arg0 (by decide)).trans <|
    (V2_of m c main_arg0 (by decide)).trans (V1_of m c main_arg0 (by decide))
/-- The second argument ends as it began. -/
theorem final_arg1 (c : Dev nD) : final m c main_arg1 = m ((c : Thread nD τ).loc main_arg1) :=
  (final_of m c main_arg1 (by decide)).trans <| (V3_of m c main_arg1 (by decide)).trans <|
    (V2_of m c main_arg1 (by decide)).trans (V1_of m c main_arg1 (by decide))

/-- The program's buffers that no window of the kernel stands on. -/
abbrev others : Finset (DevRef τ sig) := Pipeline.ucRefs τ sig \ Pipeline.arrRefs (τ := τ) spec0

/-- The buffers outside the call end as the host operations left them. -/
theorem final_others (c : Dev nD) : ∀ b ∈ others \ (∅ : Finset (DevRef τ sig)), final m c b = V3 m c b := fun b hb =>
  Function.update_of_ne (fun h => (Finset.mem_sdiff.mp (Finset.mem_sdiff.mp hb).1).2 (by
    rw [h]
    exact Finset.mem_map.mpr ⟨main_v18, Finset.mem_image.mpr ⟨(2 : Fin 3), Finset.mem_univ _, rfl⟩, rfl⟩)) _ _

/-- What the call is given is what its body needs. -/
theorem enter (c : Dev nD) :
    iprop(Pipeline.scopedRest spec0 c ∗ (∃ r, prngReg c r) ∗ StableHlo.held (c.tc : Thread nD τ) ∅ (V3 m c) ∗ ready c (lhs m) (rhs m))
      ⊢ (before m c : sProp 𝕄) := by
  rw [scopedRest0_eq]
  unfold before scratch
  iintro ⟨⟨Ha, Hs, Hz⟩, Hg, -, Hr⟩
  isplitl [Hr]; · iexact Hr
  isplitr [Hg]
  · isplitl [Ha]; · iexact Ha
    isplitl [Hs]; · iexact Hs
    iexact Hz
  iexact Hg

/-- What the body leaves is what the call gives back. -/
theorem leave (c : Dev nD) :
    (done c : sProp 𝕄) ⊢ iprop(Pipeline.scopedRest spec0 c ∗ (∃ r, prngReg c r) ∗ StableHlo.held (c.tc : Thread nD τ) ∅ (final m c)
      ∗ Pipeline.ownSems0 osem c ∗ semVal (barCell c) 0) := by
  rw [scopedRest0_eq]
  unfold done scratch StableHlo.held
  rw [BI.bigSep_empty]
  iintro ⟨Hb, Hs, ⟨Ha, Hv, Hz⟩, Hg⟩
  isplitl [Ha Hv Hz]
  · isplitl [Ha]; · iexact Ha
    isplitl [Hv]; · iexact Hv
    iexact Hz
  isplitl [Hg]; · iexact Hg
  isplitr; · iempintro
  isplitl [Hs]; · iexact Hs
  iexact Hb

/-- All that is owed at the start is above the lowest level. -/
theorem above_O₀ (c : Dev nD) : Above 0 (O₀ c) := by
  have hb (d : Dev nD) : Above 0 (bOwe d) := above_tally d _ 1 (by rw [role_bar]; decide)
  have hi : Above 0 (owedIn c) := fun g u h => ⟨(above_in c g u h).1, Nat.lt_trans Nat.zero_lt_one (above_in c g u h).2⟩
  exact ((hi.add (hb _)).add (hb _)).add (hb _)

/-- What is owed during the call is above the lowest level. -/
theorem owed_above (c : Dev nD) (t : Fin (cfg0.N + 1)) : Above 0 ((dat m c).owed t) :=
  match t with
  | ⟨0, _⟩ => above_O₀ c
  | ⟨_ + 1, _⟩ => above_zero 0

/-- The call's own staging semaphores are at the lowest level. -/
theorem staged_low : ∀ (w : Fin 3) (s : Fin (win0 w).nbuf), levelOf (roleOf (.dma ((win0 w).sem s))) ≤ 0 := by decide

/-- The own semaphores are distinct and not the staging's. -/
theorem ownSemFacts : Pipeline.OwnSemFacts spec0 osem := by decide

/-- The call's arrays begin as the host operations left them. -/
theorem array_before (c : Dev nD) (w : Fin cfg0.W) :
    (dat m c).arrAt w 0 = V3 m c (Proc.devRef .tc (Pipeline.arrRef spec0 w)) :=
  match w with
  | ⟨0, _⟩ => rfl
  | ⟨1, _⟩ => rfl
  | ⟨2, _⟩ => rfl

/-- The call's arrays end with their final contents. -/
theorem array_after (c : Dev nD) (w : Fin cfg0.W) :
    (dat m c).arrAt w cfg0.N = final m c (Proc.devRef .tc (Pipeline.arrRef spec0 w)) :=
  match w with
  | ⟨0, _⟩ => ((dat m c).arrAt_in 0 rfl _).trans (final_of m c main_v16 (by decide)).symm
  | ⟨1, _⟩ => ((dat m c).arrAt_in 1 rfl _).trans (final_of m c main_v17 (by decide)).symm
  | ⟨2, _⟩ => (result_at m c).trans (final_result m c).symm

set_option backward.isDefEq.respectTransparency.types false in
/-- The region. -/
def region : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ others (Finset.empty_subset _) launch0.toP rfl (fun c => (obligation m c).loose)
    (fun _ => 0) O₀ (fun c => (zero_add (O₀ c)).symm) (fun _ => rfl) (fun _ => rfl)
    (fun c w => by unfold Pipeline.Dat.share; split <;> rfl)
    (V3 m) (final m) (final_others m)
    (fun c => start c (lhs m) (rhs m)) (fun c => semVal (barCell c) 0)
    (fun c => ready c (lhs m) (rhs m)) (fun c => semVal (barCell c) 0)
    (fun c => open_run c (lhs m) (rhs m)) (enter m) (leave m)
    (fun c => by iintro H; imodintro; iexact H)
    (fun _ => 0)
    ⟨fun c w s => Finset.mem_singleton_self (), fun c w s => by
        exact staged_low w s,
      fun c t g i h => ⟨by rw [L, if_pos (owed_above m c t g i h).1]; exact Finset.mem_singleton_self _, (owed_above m c t g i h).2⟩⟩
    (fun _ => iprop(emp))
    (array_before m) (array_after m)

/-- Beside its buffers, what a device carries up to the kernel and past it. -/
def rest (c : Dev nD) : sProp 𝕄 :=
  iprop(start c (lhs m) (rhs m) ∗ (∃ W, owes (c : Thread nD τ) (O₀ c) W) ∗ ∃ r, prngReg c r)
/-- What is kept after the call: the barrier at zero, and nothing owed. -/
def carried (c : Dev nD) : sProp 𝕄 :=
  iprop(semVal (barCell c) 0 ∗ ∃ W, owes (c : Thread nD τ) (0 : CellTallies nD τ sig Unit) W)

/-- The call's arrays are among the program's buffers. -/
theorem arrays_among : Pipeline.arrRefs (τ := τ) spec0 ⊆ Pipeline.ucRefs τ sig :=
  Pipeline.arrRefs_sub_ucRefs spec0 (by decide)

/-- After the host operations the call can start. -/
theorem region_pre (c : Dev nD) :
    iprop(StableHlo.held (c : Thread nD τ) (Pipeline.ucRefs τ sig) (V3 m c) ∗ rest m c) ⊢ (region m).pre c := by
  show _ ⊢ iprop(StableHlo.held (c.tc : Thread nD τ) (Pipeline.arrRefs (τ := τ) spec0) (V3 m c) ∗ (∃ r, prngReg c r)
    ∗ (StableHlo.held (c.tc : Thread nD τ) others (V3 m c) ∗ emp) ∗ start c (lhs m) (rhs m) ∗ ∃ Wd, owes (c : Thread nD τ) (0 + O₀ c) Wd)
  rw [StableHlo.held_sub_split (c.tc : Thread nD τ) arrays_among (V3 m c), zero_add]
  unfold rest
  iintro ⟨⟨Ha, Ho⟩, Hs, HO, Hg⟩
  isplitl [Ha]; · iexact Ha
  isplitl [Hg]; · iexact Hg
  isplitl [Ho]
  · isplitl [Ho]; · iexact Ho
    iempintro
  isplitl [Hs]; · iexact Hs
  iexact HO

/-- After the call the buffers hold their final contents. -/
theorem region_post (c : Dev nD) :
    (region m).post c ⊢ iprop(StableHlo.held (c : Thread nD τ) (Pipeline.ucRefs τ sig) (final m c) ∗ carried c) := by
  show iprop(StableHlo.held (c.tc : Thread nD τ) (Pipeline.arrRefs (τ := τ) spec0) (final m c) ∗ (∃ r, prngReg c r)
    ∗ (StableHlo.held (c.tc : Thread nD τ) others (final m c) ∗ emp) ∗ semVal (barCell c) 0
    ∗ ∃ Wd, owes (c : Thread nD τ) (0 : CellTallies nD τ sig Unit) Wd) ⊢ _
  rw [StableHlo.held_sub_split (c.tc : Thread nD τ) arrays_among (final m c)]
  unfold carried
  iintro ⟨Ha, -, ⟨Ho, -⟩, Hb, HO⟩
  isplitl [Ha Ho]
  · isplitl [Ha]; · iexact Ha
    iexact Ho
  isplitl [Hb]; · iexact Hb
  iexact HO

end Cert.KernelIdeal.Chunked

end
-- ==== Proof.KernelIdeal.Deal.lean ====
module

public import proofs.«01_k».proof.Proof.KernelIdeal.Record
public import Idealize.ShloMosaic.Lib.Pipeline.BigSepL

/-! What the launch deals: the cells' records, the duties to those who pay them, the credits to those who wait. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Cells and duties -/

/-- Equal semaphores are on equal devices. -/
theorem dev_eq {c d : Dev nD} {s t : SemLoc sig} (h : (((c : Thread nD τ), s) : GSem nD τ sig) = ((d : Thread nD τ), t)) : c = d :=
  congrArg (fun g : GSem nD τ sig => g.1.1) h

/-- The barrier's semaphores, by device. -/
def barEmb : Dev nD ↪ GSem nD τ sig := ⟨fun c => barCell c, fun _ _ h => dev_eq h⟩
/-- The own semaphores, by device. -/
def ownEmb : Dev nD × (Fin 4 × Fin 16) ↪ GSem nD τ sig :=
  ⟨fun p => ownCell p.1 p.2, fun _ _ h => Prod.ext (dev_eq h) (ownSemFacts.inj (congrArg Prod.snd h))⟩

/-- All barrier semaphores. -/
abbrev barCells : Finset (GSem nD τ sig) := Finset.univ.map barEmb
/-- All own semaphores. -/
abbrev ownCells : Finset (GSem nD τ sig) := Finset.univ.map ownEmb

/-- Whose barrier device `c` pays with duty `d`, and whose cell with its copy's duty. -/
def barOf (d : Fin 3) : Dev nD → Dev nD := ![zn, xn, yn] d
/-- Whose semaphore of a family a device pays. -/
def cellOf (p : Fin 4 × Fin 16) : Dev nD → Dev nD := ![fun c => c, zn, fun c => c, nb p.2] p.1

/-- The three signals of the barrier are mutual. -/
theorem barOf_barOf : ∀ (d : Fin 3) (c : Dev nD), barOf d (barOf d c) = c := by decide
/-- Each family's payments are mutual. -/
theorem cellOf_cellOf : ∀ (p : Fin 4 × Fin 16) (c : Dev nD), cellOf p (cellOf p c) = c := by
  rintro ⟨a, k⟩ c
  fin_cases a
  · rfl
  · exact zn_zn c
  · rfl
  · exact nb_nb k c

/-- The barrier's payments, by payer. -/
def barDuty : Dev nD × Fin 3 ↪ GSem nD τ sig × ℕ × Fin 3 :=
  ⟨fun p => (barCell (barOf p.2 p.1), 0, p.2), fun p q h => by
    have hd : p.2 = q.2 := congrArg (fun x : GSem nD τ sig × ℕ × Fin 3 => x.2.2) h
    have hc := dev_eq (congrArg Prod.fst h)
    rw [hd] at hc
    exact Prod.ext (by rw [← barOf_barOf q.2 p.1, hc, barOf_barOf]) hd⟩
/-- The own semaphores' payments, by payer. -/
def ownDuty : Dev nD × (Fin 4 × Fin 16) ↪ GSem nD τ sig × ℕ × Fin 3 :=
  ⟨fun p => (ownCell (cellOf p.2 p.1) p.2, 0, 0), fun p q h => by
    have hd : p.2 = q.2 := ownSemFacts.inj (congrArg (fun x : GSem nD τ sig × ℕ × Fin 3 => x.1.2) h)
    have hc := dev_eq (congrArg Prod.fst h)
    rw [hd] at hc
    exact Prod.ext (by rw [← cellOf_cellOf q.2 p.1, hc, cellOf_cellOf]) hd⟩

/-- All payments. -/
abbrev duties : Finset (GSem nD τ sig × ℕ × Fin 3) := Finset.univ.map barDuty ∪ Finset.univ.map ownDuty

/-- An own semaphore is not the barrier's. -/
theorem own_ne_bar (p : Fin 4 × Fin 16) : osem p ≠ .reg barSem := fun h => nomatch h

/-- The barrier's semaphores are apart from the own ones. -/
theorem cells_disjoint : Disjoint barCells ownCells := Finset.disjoint_left.mpr fun _ h₁ h₂ => by
  obtain ⟨_, -, rfl⟩ := Finset.mem_map.mp h₁
  obtain ⟨p, -, h⟩ := Finset.mem_map.mp h₂
  exact own_ne_bar p.2 (congrArg Prod.snd h)
/-- So are their payments. -/
theorem duties_disjoint : Disjoint (Finset.univ.map barDuty) (Finset.univ.map ownDuty) := Finset.disjoint_left.mpr fun _ h₁ h₂ => by
  obtain ⟨_, -, rfl⟩ := Finset.mem_map.mp h₁
  obtain ⟨p, -, h⟩ := Finset.mem_map.mp h₂
  exact own_ne_bar p.2 (congrArg (fun x : GSem nD τ sig × ℕ × Fin 3 => x.1.2) h)

/-- All payments' tokens, dealt to the devices that pay. -/
theorem deal_duties :
    bigSep duties (fun x => (dutyTok ER x.1 x.2.1 x.2.2 : sProp 𝕄))
      = iprop((bigSep Finset.univ fun c : Dev nD => barToks c)
        ∗ bigSep Finset.univ fun c : Dev nD => bigSep Finset.univ (chunkToks c)) := by
  rw [BI.bigSep_union duties_disjoint, bigSep_map, bigSep_map, bigSep_univ_prod, bigSep_univ_prod]
  refine congrArg₂ _ (bigSep_congr fun c _ => ?_) (bigSep_congr fun c _ => ?_)
  · exact bigSep_univ_eq_bigSepL (Φ := fun d : Fin 3 => (dutyTok ER (barCell (barOf d c)) 0 d : sProp 𝕄)) [0, 1, 2] (by decide) (by decide)
  · exact own_chunks fun p => (dutyTok ER (ownCell (cellOf p c) p) 0 0 : sProp 𝕄)

/-! ## Credits -/

/-- Where each device owes its neighbour `e` one payment, each is credited one. -/
theorem credit_of (e : Dev nD → Dev nD) (he : ∀ c, e (e c) = c) (sm : SemLoc sig) (n : ℕ) (c : Dev nD) :
    (Pipeline.launchCred (fun d => tallyAt ((e d : Thread nD τ), sm) () n) c : sProp 𝕄) ⊢ cred (tallyAt ((c : Thread nD τ), sm) () n) := by
  refine (Pipeline.launchCred_elim _ c sm).trans (Entails.of_eq (congrArg cred ?_))
  unfold tallyAt
  refine congrArg _ (Finsupp.ext fun u => ?_)
  cases u
  have hd (d : Dev nD) : (tallyAt ((e d : Thread nD τ), sm) () n : CellTallies nD τ sig Unit) ((c : Thread nD τ), sm) () = if d = e c then n else 0 := by
    rw [tallyAt_apply]
    by_cases h : d = e c
    · rw [if_pos h, if_pos]
      rw [h, he]; exact ⟨rfl, rfl⟩
    · rw [if_neg h, if_neg]
      rintro ⟨h', -⟩
      exact h (by rw [dev_eq h', he])
  rw [Pipeline.launchCredit_owing, Finsupp.single_eq_same]
  exact (Finset.sum_congr rfl fun d _ => hd d).trans
    ((Finset.sum_ite_eq' Finset.univ (e c) fun _ => n).trans (if_pos (Finset.mem_univ _)))

/-- The credit for the debts of a list of chunks, chunk by chunk. -/
theorem credits_of (o : Dev nD → Fin 16 → CellTallies nD τ sig Unit) (c : Dev nD) (Φ : Fin 16 → sProp 𝕄)
    (h : ∀ k, Pipeline.launchCred (fun d => o d k) c ⊢ Φ k) :
    ∀ l, (Pipeline.launchCred (fun d => oweAll (o d) l) c : sProp 𝕄) ⊢ bigSepL l Φ
  | [] => Entails.of_eq (Pipeline.launchCred_zero c)
  | k :: ks => by
    show Pipeline.launchCred (fun d => oweAll (o d) ks + o d k) c ⊢ _
    rw [Pipeline.launchCred_add, bigSepL_cons']
    iintro ⟨H, Hk⟩
    isplitl [Hk]; · iapply (h k); iexact Hk
    iapply (credits_of o c Φ h ks); iexact H

/-- The two blocks' chunks are all chunks. -/
theorem chunk_list : chunksLo ++ chunksHi = chunks := rfl
/-- What holds of every chunk, along the list of chunks. -/
theorem over_chunks (Φ : Fin 16 → sProp 𝕄) : bigSep Finset.univ Φ = bigSepL chunks Φ :=
  bigSep_univ_eq_bigSepL (Φ := Φ) chunks (by decide) (by decide)

/-- The credits with which a device starts. -/
theorem deal_credits (c : Dev nD) :
    (Pipeline.launchCred O₀ c : sProp 𝕄) ⊢ iprop(cred (tallyAt (barCell c) () 3) ∗ bigSep Finset.univ (chunkCreds c)) := by
  have h3 : (tallyAt (barCell c) () 3 : CellTallies nD τ sig Unit) = bOwe c + (bOwe c + bOwe c) := by
    unfold bOwe; rw [tallyAt_add, tallyAt_add]
  have hb (e : Dev nD → Dev nD) (he : ∀ c, e (e c) = c) : (Pipeline.launchCred (fun d => bOwe (e d)) c : sProp 𝕄) ⊢ cred (bOwe c) :=
    credit_of e he (.reg barSem) 1 c
  unfold chunkCreds
  rw [zip, over_chunks, over_chunks, h3, ← chunk_list, bigSepL_append, chunk_list]
  unfold O₀ owedIn
  rw [Pipeline.launchCred_add, Pipeline.launchCred_add, Pipeline.launchCred_add, Pipeline.launchCred_add, Pipeline.launchCred_add]
  iintro ⟨⟨⟨⟨⟨Hp, Hh⟩, Hl⟩, Hy⟩, Hx⟩, Hz⟩
  ihave Hy := (hb yn yn_yn) $$ Hy
  ihave Hx := (hb xn xn_xn) $$ Hx
  ihave Hz := (hb zn zn_zn) $$ Hz
  ihave Hp := (credits_of (F := F) pOwe c (fun k => cred (tallyAt (prCell c k) () N)) (fun k => credit_of (nb k) (nb_nb k) (.dma (pr k)) N c) chunks) $$ Hp
  ihave Hh := (credits_of (F := F) zOwe c (fun k => cred (tallyAt (zrCell c k) () N)) (fun k => credit_of zn zn_zn (.dma (zr k)) N c) chunksHi) $$ Hh
  ihave Hl := (credits_of (F := F) zOwe c (fun k => cred (tallyAt (zrCell c k) () N)) (fun k => credit_of zn zn_zn (.dma (zr k)) N c) chunksLo) $$ Hl
  isplitl [Hx Hy Hz]
  · iapply (cred_add _ _).2
    isplitl [Hx]; · iexact Hx
    iapply (cred_add _ _).2
    isplitl [Hy]; · iexact Hy
    iexact Hz
  isplitl [Hh Hl]
  · isplitl [Hl]; · iexact Hl
    iexact Hh
  iexact Hp

/-! ## The launch -/

/-- What the launch records: the pipeline's cells, and the protocol's with every duty. -/
def u₀ : UU :=
  (initOf (Pipeline.cells (Pipeline.pin (pcfgs (F := F)) adm) cellOf_inj) (Pipeline.launchToks (Pipeline.pin (pcfgs (F := F)) adm) cellOf_inj),
    launchOf barCells ownCells duties)

/-- The protocol's record is kept with device 0 until it is dealt. -/
def held0 (c : Dev nD) : sProp 𝕄 := if c = 0 then BI.own (ER (launchOf barCells ownCells duties)) else iprop(emp)

/-- The launch's ghost state is held once. -/
theorem held0_all : bigSep Finset.univ held0 = (BI.own (ER (launchOf barCells ownCells duties)) : sProp 𝕄) := by
  rw [bigSep_univ_at _ (0 : Dev nD), bigSep_congr (s := Finset.univ.erase (0 : Dev nD)) (Ψ := fun _ => (BI.emp : sProp 𝕄)) fun c hc => by
    unfold held0; rw [if_neg (Finset.ne_of_mem_erase hc)]; rfl, BI.bigSep_emp_const]
  unfold held0; rw [if_pos rfl]
  exact BI.equiv_iff.mp sep_emp

/-- The only lasting semaphore is the barrier's. -/
theorem unscoped_eq : ∀ sm : SemLoc sig, sm.isScoped .tc = false → sm = .reg barSem := by decide

/-- So the lasting semaphores at zero are the barrier's at zero. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barSem} from by decide, BI.bigSep_singleton]

section deal

variable (m : (ℓ : Loc nD τ sig) → Buf (Elt F) ℓ)

/-- What every device may read once the launch has dealt. -/
def records (κ : GSem nD τ sig → ℕ) : sProp 𝕄 :=
  iprop(invs (lhs m) (rhs m) κ ∗ bigSep barCells fun g => reached ER g 0)

instance records_persistent (κ : GSem nD τ sig → ℕ) : BI.Persistent (records m κ) := by unfold records; infer_instance

/-- Every barrier stands at its first round. -/
theorem reached_of (d : Dev nD) : (bigSep barCells fun g => (reached ER g 0 : sProp 𝕄)) ⊢ reached ER (barCell d) 0 :=
  bigSep_elim (Finset.mem_map_of_mem barEmb (Finset.mem_univ d))

/-- A device's credits, what it owes, and its generator register. -/
def purse (c : Dev nD) : sProp 𝕄 :=
  iprop((cred (tallyAt (barCell c) () 3) ∗ bigSep Finset.univ (chunkCreds c)) ∗ (∃ W, owes (c : Thread nD τ) (O₀ c) W) ∗ ∃ r, prngReg c r)

/-- What a device alone gets, and what of it stands beside the records. -/
def dealt (c : Dev nD) : sProp 𝕄 :=
  iprop(purse c
    ∗ atPos ER (barCell c) 0 ∅ 0 ∗ dormant c ∗ barToks c ∗ bigSep Finset.univ (chunkToks c))

/-- A device's deal and what is on record are what it needs beside its buffers. -/
theorem rest_of (κ : GSem nD τ sig → ℕ) (c : Dev nD) : iprop(records m κ ∗ dealt c) ⊢ rest m c := by
  unfold records dealt purse rest start barReached
  iintro ⟨⟨#HI, #HR⟩, ⟨⟨Hb, Hc⟩, HO, Hg⟩, Hat, Hd, Ht, Hk⟩
  isplitr [HO Hg]
  · isplitr; · iexists κ; iexact HI
    isplitl [Hb Hat]
    · isplitl [Hb]; · iexact Hb
      iexact Hat
    isplitl [Ht]; · iexact Ht
    isplitr
    · isplitr; · iapply (reached_of (F := F) (zn c)); iexact HR
      isplitr; · iapply (reached_of (F := F) (xn c)); iexact HR
      iapply (reached_of (F := F) (yn c)); iexact HR
    isplitl [Hd]; · iexact Hd
    isplitl [Hk]; · iexact Hk
    iexact Hc
  isplitl [HO]; · iexact HO
  iexact Hg

variable (ρ : Dev nD → PrngReg)

/-- Out of what the launch leaves at every device, every device's rest. -/
theorem deal :
    (bigSep Finset.univ fun c : Dev nD => iprop(unscopedSems0 c ∗ owes (c : Thread nD τ) (O₀ c) ∅ ∗ Pipeline.launchCred O₀ c ∗ prngReg c (ρ c) ∗ held0 c))
      ⊢ (|={Set.univ}=> bigSep Finset.univ (rest m) : sProp 𝕄) := by
  have hcore (c : Dev nD) : iprop(unscopedSems0 c ∗ owes (c : Thread nD τ) (O₀ c) ∅ ∗ Pipeline.launchCred O₀ c ∗ prngReg c (ρ c) ∗ held0 c)
      ⊢ (iprop(purse c
          ∗ semVal (barCell c) 0 ∗ held0 c) : sProp 𝕄) := by
    rw [unscoped_bar]
    unfold purse
    iintro ⟨Hv, HO, Hc, Hg, Hu⟩
    isplitr [Hv Hu]
    · isplitl [Hc]; · iapply (deal_credits c); iexact Hc
      isplitl [HO]; · iexists ∅; iexact HO
      iexists (ρ c); iexact Hg
    isplitl [Hv]; · iexact Hv
    iexact Hu
  have hv : bigSep barCells (fun g => (semVal g 0 : sProp 𝕄)) = bigSep Finset.univ fun c : Dev nD => semVal (barCell c) 0 := bigSep_map barEmb
  have hat : bigSep barCells (fun g => (atPos ER g 0 ∅ 0 : sProp 𝕄)) = bigSep Finset.univ fun c : Dev nD => atPos ER (barCell c) 0 ∅ 0 := bigSep_map barEmb
  have hop : bigSep ownCells (fun g => (openTok ER g : sProp 𝕄)) = bigSep Finset.univ fun c : Dev nD => dormant c := by
    rw [bigSep_map, bigSep_univ_prod]; rfl
  have hin (κ : GSem nD τ sig → ℕ) : bigSep (barCells ∪ ownCells) (fun g => (cellInv ER (Rd (lhs m) (rhs m)) (κ g) g : sProp 𝕄)) = invs (lhs m) (rhs m) κ := by
    rw [BI.bigSep_union cells_disjoint, bigSep_map, bigSep_map]; rfl
  refine (show _ ⊢ _ from bigSep_mono fun c _ => hcore c).trans ?_
  rw [bigSep_sep', bigSep_sep', held0_all, ← hv]
  iintro ⟨HB, Hv, Hu⟩
  imod (Rounds.fund_launch ER (Rd (lhs m) (rhs m)) cells_disjoint (fun _ _ h => h) duties) $$ [Hv Hu] with ⟨%κ, -, Hinv, Hr, Hat, Hop, Htok⟩
  · isplitl [Hv]; · iexact Hv
    iexact Hu
  imodintro
  iapply (bigSep_with_persistent (R := records m κ) (Φ := dealt) fun c _ => rest_of m κ c)
  ihave Hinv := (Entails.of_eq (hin κ)) $$ Hinv
  ihave Hat := (Entails.of_eq hat) $$ Hat
  ihave Hop := (Entails.of_eq hop) $$ Hop
  ihave Htok := (Entails.of_eq (deal_duties (F := F))) $$ Htok
  icases Htok with ⟨Hb, Hk⟩
  isplitl [Hinv Hr]
  · unfold records
    isplitl [Hinv]; · iexact Hinv
    iexact Hr
  unfold dealt
  simp only [bigSep_sep']
  isplitl [HB]; · iexact HB
  isplitl [Hat]; · iexact Hat
  isplitl [Hop]; · iexact Hop
  isplitl [Hb]; · iexact Hb
  iexact Hk

end deal

end Cert.KernelIdeal.Chunked

end
-- ==== Proof.KernelIdeal.Run.lean ====
module

public import proofs.«01_k».proof.Proof.KernelIdeal.Deal

/-! The program's run: every device ends with the result, its operands as they were, and its semaphores at zero. -/

@[expose] public section

noncomputable section

namespace Cert.KernelIdeal.Chunked

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What a device carries beside its buffers, before the kernel and after. -/
abbrev beside : Fin 2 → Dev nD → sProp 𝕄 := ![rest m, carried]

/-- The launch: each device's buffers, and out of the rest what the devices carry. -/
theorem launch :
    iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ held0 c)) ∗ levAts L lv)
      ⊢ (|={Set.univ}=> bigSep Finset.univ fun c : Dev nD =>
          iprop(StableHlo.held (c : Thread nD τ) (Pipeline.ucRefs τ sig) (V0 m c) ∗ rest m c) : sProp 𝕄) := by
  have hb (c : Dev nD) : unscopedBufs c (fun b => m ((c.tc : Thread nD τ).loc b))
      = (StableHlo.held (c : Thread nD τ) (Pipeline.ucRefs τ sig) (V0 m c) : sProp 𝕄) := Pipeline.unscopedBufs_held c (V0 m c)
  simp only [hb]
  rw [bigSep_sep', bigSep_sep' Finset.univ (fun c : Dev nD => StableHlo.held (c : Thread nD τ) (Pipeline.ucRefs τ sig) (V0 m c)) (rest m)]
  iintro ⟨⟨Hh, Hr⟩, -⟩
  imod (deal m ρ) $$ Hr with Hr
  imodintro
  isplitl [Hh]; · iexact Hh
  iexact Hr

set_option backward.isDefEq.respectTransparency.types false in
/-- From any memory every weakly fair run ends, each device holding the result, its operands unchanged, and every
    semaphore at zero. -/
theorem run_result : θ_run defs (onTc (τ := τ) (main (F := F))) ⟨m, fun _ => 0, ρ⟩ (fun r =>
    (∀ c : Dev nD, r.2.mem ((c.tc : Thread nD τ).loc main_v18) = res m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine Pipeline.θ_run_regions_kit_dev_sems (pcfgs (F := F)) adm (pdats m) () cellOf_inj EP defs₀ 𝒱₀ L lv m ρ main
    (segs m 𝒱₀ L lv (beside m) () (pdats m) (region m))
    (fun c Q => by
      rewrite [main_chain c, Seg.run_eq_chain,
        show (segs m 𝒱₀ L lv (beside m) () (pdats m) (region m) c).map Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne held0 u₀
    (by
      unfold u₀
      iintro Hu
      ihave H := (ownU_pair _ _) $$ Hu
      icases H with ⟨HP, HX⟩
      imodintro
      isplitl [HP]; · iexact HP
      rw [held0_all]; iexact HX)
    (T₀ := fun c => iprop(StableHlo.held (c : Thread nD τ) (Pipeline.ucRefs τ sig) (V0 m c) ∗ rest m c))
    (Tₙ := fun c => iprop(StableHlo.held (c : Thread nD τ) (Pipeline.ucRefs τ sig) (final m c) ∗ semVal (barCell c) 0))
    (hch := fun c => ⟨.rfl, .rfl, .rfl, region_pre m c, (region_post m c).trans (by
      unfold carried
      iintro ⟨Hh, Hb, HO⟩
      isplitl [Hh Hb]
      · isplitl [Hh]; · iexact Hh
        iexact Hb
      iexact HO)⟩)
    (hinit := launch m ρ)
    (QY := fun c s => (s.mem ((c.tc : Thread nD τ).loc main_v18) = res m c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by
      obtain rfl := unscoped_eq sm hsm
      exact (h c).2⟩)
  have hmem (r : Ref sig .tc) (hr : (Proc.devRef (τ := τ) .tc r).isScoped = false) : (Proc.devRef .tc r : DevRef τ sig) ∈ Pipeline.ucRefs τ sig :=
    Finset.mem_filter.mpr ⟨StableHlo.devRef_mem_tcRefs r, by simp [hr]⟩
  unfold StableHlo.held
  iintro ⟨⟨Hh, Hb⟩, HSI⟩
  icombine HSI Hb gives %hb
  ihave Hr := (pointsTo_read_all (Pipeline.ucRefs τ sig) (fun b => ((c : Thread nD τ).1, b)) (final m c) s') $$ [Hh HSI]
  · isplitl [Hh] <;> iassumption
  icases Hr with ⟨%h, HSI⟩
  imodintro
  isplitr
  · ipureintro
    exact ⟨⟨(h _ (hmem main_v18 rfl)).trans (final_result m c), (h _ (hmem main_arg0 rfl)).trans (final_arg0 m c),
      (h _ (hmem main_arg1 rfl)).trans (final_arg1 m c)⟩, by simpa using hb⟩
  · iexact HSI

end Cert.KernelIdeal.Chunked

end
-- ==== Proof.KernelIdeal.Value.lean ====
module

public import proofs.«01_k».proof.Proof.KernelIdeal.Region
public import proofs.«01_k».proof.Proof.Gen.KernelIdeal.Regions
public import Idealize.ShloMosaic.Lib.MatmulPlain
public import Idealize.ShloMosaic.Lib.DynamicIndex
public import Idealize.ShloMosaic.Lib.Layout
public import Idealize.ShloMosaic.Lib.ValueLayout
public import Idealize.ShloMosaic.Lib.Pipeline.Value
public import Idealize.ShloMosaic.Lib.ValueIdx
public import Idealize.ShloMosaic.Lib.StableHlo.RunHlo
public import Idealize.ShloMosaic.Lib.StableHlo.RunRead

/-! What every device ends with, at exact values: each entry is the sum of two partial products, one from
each end of the contracted dimension, so it is the entry of the product of the whole arrays. -/

@[expose] public section

noncomputable section

namespace Cert.KernelIdeal.Chunked

open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ)

/-- A device's part of the left factor when the program starts. -/
abbrev dyOf (c : Dev nD) : FVec Ideal S512x2048 .f32 := m ((c.tc : Thread nD τ).loc main_arg0)
/-- A device's part of the right factor when the program starts. -/
abbrev wOf (c : Dev nD) : FVec Ideal S512x2048 .f32 := m ((c.tc : Thread nD τ).loc main_arg1)

/-- The kernel's right factor is the device's argument, its format changed. -/
theorem rhs_eq (c : Dev nD) : rhs m c = (truncf .bf16 (wOf m c) bitsLt_bf16_f32 : FVec Ideal S512x2048 .bf16) := by
  unfold rhs
  after_results

/-- Row `256 * half c` is where a device's half begins. -/
def rowStart (c : Dev nD) : Fin 2 → Int := ![(256 * half c : ℕ), 0]

/-- The row the host program computes from the device's number is where the device's half begins. -/
theorem firstRow_eq (c : Dev nD) :
    ((V3 m c main_v14 : IVec S_ 32) (Shape.Idx.first h_S_)).toInt = (256 * half c : ℕ) := by
  after_results
  revert c
  decide +kernel

/-- The kernel's left factor is the device's half of the rows of its argument, its format changed. -/
theorem lhs_eq (c : Dev nD) : lhs m c
    = (truncf .bf16 (Host.dynamicSlice S256x2048 (dyOf m c) (rowStart c) sliceFits_S512x2048_S256x2048) bitsLt_bf16_f32
      : FVec Ideal S256x2048 .bf16) := by
  unfold lhs
  after_results
  congr 2
  funext k
  match k with
  | ⟨0, _⟩ => exact firstRow_eq m c
  | ⟨1, _⟩ => rfl

/-! ## The factors by rows and columns -/

/-- Row `r` of the kernel's left factor is row `256 * half c + r` of the argument. -/
theorem lhs_apply (c : Dev nD) (r : Fin 256) (k : Fin 2048) :
    lhs m c (ix2 r k) = dyOf m c (ix2 ⟨256 * half c + r.val, by have := half_lt c; omega⟩ k) := by
  have hh := half_lt c
  rw [lhs_eq, Host.dynamicSlice_eq_extractStridedSlice S256x2048 (dyOf m c) (rowStart c) ![256 * half c, 0]
    sliceFits_S512x2048_S256x2048 ⟨rfl, fun a => match a with
      | ⟨0, _⟩ => (by show 256 * half c + 256 ≤ 512; omega)
      | ⟨1, _⟩ => (by show 0 + 2048 ≤ 2048; omega)⟩ (fun a => match a with | ⟨0, _⟩ => rfl | ⟨1, _⟩ => rfl)]
  show dyOf m c _ = _
  congr 1
  funext a
  apply Fin.ext
  match a with
  | ⟨0, _⟩ => rfl
  | ⟨1, _⟩ => show 0 + k.val = k.val; omega

/-- The kernel's right factor has the argument's entries. -/
theorem rhs_apply (c : Dev nD) (j : Fin 512) (k : Fin 2048) : rhs m c (ix2 j k) = wOf m c (ix2 j k) := by
  rw [rhs_eq]; rfl

/-! ## The contents at exact values -/

section contents

variable (X : Dev nD → Vec Ideal S256x2048 .bf16) (Y : Dev nD → Vec Ideal S512x2048 .bf16)

/-- One device's partial product at row `r` of its half and column `j`. -/
def part (c : Dev nD) (r : Fin 256) (j : Fin 512) : Ideal .f32 := ∑ k : Fin 2048, X c (ix2 r k) * Y c (ix2 j k)

/-- The product of a block of rows, entry by entry, is the sum over the contracted dimension. -/
theorem product_apply (x : Vec Ideal S128x2048 .bf16) (y : Vec Ideal S512x2048 .bf16) (r : Fin 128) (j : Fin 512) :
    k0_pay1 x y (ix2 r j) = ∑ k : Fin 2048, x (ix2 r k) * y (ix2 j k) := by
  unfold k0_pay1
  rw [shapeCast_self, shapeCast_self]
  refine (Ideal.matmul_transposedRhs_apply (M := 128) (K := 2048) (N := 512) none x y _ r j).trans ?_
  rw [constant_apply, Ideal.ofBits_zero_f32, zero_add]

/-- The f32 buffer holds the device's partial product. -/
theorem aFun_apply (c : Dev nD) (r : Fin 256) (j : Fin 512) : aFun X Y c (ix2 r j) = part X Y c r j := by
  unfold aFun k0_pay2 part
  rw [shapeCast_self]
  refine (product_apply _ _ ⟨r.val % 128, Nat.mod_lt _ (by decide)⟩ j).trans (Finset.sum_congr rfl fun k _ => ?_)
  congr 1
  show X c _ = X c _
  congr 1
  funext a
  apply Fin.ext
  match a with
  | ⟨0, _⟩ => show 128 * (r.val / 128) + 1 * (r.val % 128) = r.val; omega
  | ⟨1, _⟩ => show 0 + 1 * k.val = k.val; omega

/-- Rounding changes nothing at exact values. -/
theorem sFun_eq (c : Dev nD) : sFun X Y c = aFun X Y c := by
  funext i
  unfold sFun aFun k0_pay3 k0_pay2
  rw [shapeCast_self, shapeCast_self]
  rfl

/-- An entry of a reduced chunk is the device's partial product plus its neighbour's across `z`. -/
theorem redChunk_apply (c : Dev nD) (k : Fin 16) (r : Fin 16) (j : Fin 512) :
    redChunk X Y c k (ix2 r j) = part X Y c ⟨16 * k.val + r.val, by omega⟩ j
      + part X Y (zn c) ⟨16 * k.val + r.val, by omega⟩ j := by
  rw [← aFun_apply, ← aFun_apply, ← sFun_eq X Y (zn c)]
  unfold redChunk k0_pay8
  rw [truncf_apply, addf_apply, extf_apply, shapeCast_1ab_ab_apply]
  have hr := row_emb k (ix2 r j)
  congr 1
  · congr 1
    funext a
    match a with
    | ⟨0, _⟩ => exact Fin.ext hr.1
    | ⟨1, _⟩ => exact Fin.ext hr.2
  · show sFun X Y (zn c) _ = sFun X Y (zn c) _
    congr 1
    funext a
    apply Fin.ext
    match a with
    | ⟨0, _⟩ => show 16 * (k.val + 1 * 0) + (0 + 1 * r.val) = 16 * k.val + r.val; omega
    | ⟨1, _⟩ => show 0 + 1 * j.val = j.val; omega

/-- An entry of the result is reduced on a device `d` that owns its row, from that device and the one across `z`. -/
theorem outFun_apply (c : Dev nD) (i j : Fin 512) : ∃ d : Dev nD, half d = i.val / 256 ∧
    outFun X Y c (ix2 i j) = part X Y d ⟨i.val % 256, Nat.mod_lt _ (by decide)⟩ j
      + part X Y (zn d) ⟨i.val % 256, Nat.mod_lt _ (by decide)⟩ j := by
  refine ⟨if i.val / 256 = half c then c else nb (outChunk (ix2 i j)) c, ?_, ?_⟩
  · split
    · exact Eq.symm ‹_›
    · have := half_nb (outChunk (ix2 i j)) c
      have := half_lt c
      omega
  · have e : (⟨i.val % 256, Nat.mod_lt _ (by decide)⟩ : Fin 256)
        = ⟨16 * (outChunk (ix2 i j)).val + i.val % 16, by have := (outChunk (ix2 i j)).isLt; omega⟩ := by
      apply Fin.ext
      show i.val % 256 = 16 * (i.val / 16 % 16) + i.val % 16
      omega
    rw [e]
    exact redChunk_apply X Y _ _ ⟨i.val % 16, Nat.mod_lt _ (by decide)⟩ j

end contents

/-! ## The whole product -/

/-- The product of the whole arrays, as one sum. -/
def whole (A B : FVec Ideal ⟨2, ![512, 4096]⟩ .f32) : FVec Ideal ⟨2, ![512, 512]⟩ .bf16 := fun i =>
  ∑ k : Fin 4096, A (ix2 (i 0) k) * B (ix2 (i 1) k)

/-- Columns `2048z … 2048z+2047` of the whole array. -/
def colsAt (z : ℕ) (h : z < 2) (A : FVec Ideal ⟨2, ![512, 4096]⟩ .f32) : FVec Ideal S512x2048 .f32 := fun i =>
  A (ix2 (i 0) ⟨2048 * z + (i 1).val, by have h1 : (i 1).val < 2048 := (i 1).isLt; omega⟩)

/-- A device's block of a whole array is the half of its columns that its `z` coordinate names. -/
theorem block_eq (c : Dev nD) (A : FVec Ideal ⟨2, ![512, 4096]⟩ .f32) :
    Layout.blockN ⟨2, ![512, 2048]⟩ ⟨2, ![512, 4096]⟩ (Layout.meshBlock [2, 2, 2] ![[], [2]] c) A
      = colsAt (c.val % 2) (Nat.mod_lt _ (by decide)) A := by
  funext i
  rw [Layout.blockN_apply]
  unfold colsAt
  congr 1
  funext a
  apply Fin.ext
  match a with
  | ⟨0, _⟩ => show 0 * 512 + (i 0).val = (i 0).val; omega
  | ⟨1, _⟩ =>
    have e : ∀ c : Fin 8, Layout.meshLin [2, 2, 2] c.val [2] = c.val % 2 := by decide
    show Layout.meshLin [2, 2, 2] c.val [2] * 2048 + (i 1).val = 2048 * (c.val % 2) + (i 1).val
    rw [e c]; omega

variable (A B : FVec Ideal ⟨2, ![512, 4096]⟩ .f32)

/-- The terms of one half of the contracted dimension. -/
def halfSum (z : ℕ) (h : z < 2) (i j : Fin 512) : Ideal .f32 :=
  ∑ k : Fin 2048, colsAt z h A (ix2 i k) * colsAt z h B (ix2 j k)

/-- The sum over the whole contracted dimension is the sum of the two halves. -/
theorem whole_apply (i j : Fin 512) :
    whole A B (ix2 i j) = halfSum A B 0 (by decide) i j + halfSum A B 1 (by decide) i j := by
  unfold whole halfSum
  exact (Fin.sum_univ_add (a := 2048) (b := 2048) _).trans (congrArg₂ (· + ·)
    (Finset.sum_congr rfl fun k _ => by unfold colsAt; congr 3 <;> exact Fin.ext (Nat.zero_add k.val).symm) rfl)

/-- Every device ends with the product of the whole arrays. -/
theorem res_eq (hA : ∀ c, dyOf m c = Layout.blockN ⟨2, ![512, 2048]⟩ ⟨2, ![512, 4096]⟩ (Layout.meshBlock [2, 2, 2] ![[], [2]] c) A)
    (hB : ∀ c, wOf m c = Layout.blockN ⟨2, ![512, 2048]⟩ ⟨2, ![512, 4096]⟩ (Layout.meshBlock [2, 2, 2] ![[], [2]] c) B)
    (c : Dev nD) : res m c = whole A B := by
  funext y
  obtain ⟨i, j, rfl⟩ : ∃ i j : Fin 512, y = ix2 i j := ⟨y 0, y 1, eq_ix2 y⟩
  obtain ⟨d, hd, hv⟩ := outFun_apply (lhs m) (rhs m) c i j
  have hp : ∀ e : Dev nD, half e = i.val / 256 → part (lhs m) (rhs m) e ⟨i.val % 256, Nat.mod_lt _ (by decide)⟩ j
      = halfSum A B (e.val % 2) (Nat.mod_lt _ (by decide)) i j := by
    intro e he
    unfold part halfSum
    refine Finset.sum_congr rfl fun k _ => ?_
    rw [lhs_apply, rhs_apply, hA, hB, block_eq, block_eq]
    congr 3
    apply Fin.ext
    show 256 * half e + i.val % 256 = i.val
    omega
  have hz : ∀ e : Dev nD, half (zn e) = half e ∧ (zn e).val % 2 + e.val % 2 = 1 := by decide
  refine hv.trans ?_
  rw [hp d hd, hp (zn d) ((hz d).1.trans hd), whole_apply]
  rcases Nat.mod_two_eq_zero_or_one d.val with h | h
  · have h' : (zn d).val % 2 = 1 := by have := (hz d).2; omega
    simp only [h, h']
  · have h' : (zn d).val % 2 = 0 := by have := (hz d).2; omega
    simp only [h, h']
    exact add_comm _ _

end Cert.KernelIdeal.Chunked

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Lib.StackMember
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Idealize.ShloMosaic.ValueIdx

/-- The reference's result is the product of its arguments, each entry one sum. -/
theorem reference_eq (A B : FVec Ideal ⟨2, ![512, 4096]⟩ .f32) :
    (truncf .bf16 (Host.dotGeneral Cert.ReferenceIdeal.dot_S512x4096_S4096x512_S512x512_1_0_0_1_n_n none A
      (transpose Cert.ReferenceIdeal.S4096x512 [1, 0] B Cert.ReferenceIdeal.Gen.facts.transposes_S512x4096_S4096x512_1_0))
      Cert.ReferenceIdeal.Gen.facts.bitsLt_bf16_f32 : FVec Ideal Cert.ReferenceIdeal.S512x512 .bf16)
      = Cert.KernelIdeal.Chunked.whole A B := by
  funext y
  obtain ⟨i, j, rfl⟩ : ∃ i j : Fin 512, y = ix2 i j := ⟨y 0, y 1, eq_ix2 y⟩
  rw [truncf_apply]
  refine (Idealize.ShloMosaic.StackMember.dotGeneral_plain_apply (m := 512) (k := 4096) (n := 512) none A _ i j).trans ?_
  unfold Cert.KernelIdeal.Chunked.whole
  refine Finset.sum_congr rfl fun k _ => ?_
  rw [transpose_ix2_apply]

/-- All the claims. -/
theorem claim : Cert.Claim := ⟨Cert.Kernel.Gen.facts, Cert.KernelIdeal.Gen.facts, Cert.ReferenceIdeal.Gen.facts, by
  refine ⟨fun m g _ => ?_, fun m g _ => ?_, fun m g _ => ?_, trivial, fun m g m' g' _ hm => ?_⟩
  · exact (θ_run _ _ _).mono (fun _ h => ⟨fun c => (h.1 c).2, h.2⟩) (Cert.Kernel.Chunked.run_result m g)
  · exact (θ_run _ _ _).mono (fun _ h => ⟨fun c => (h.1 c).2, h.2⟩) (Cert.KernelIdeal.Chunked.run_result m g)
  · exact (θ_run _ _ _).mono (fun r h => ⟨fun c => (h c).2, sem_eq_zero_of_no_sems rfl r.2⟩) (Cert.ReferenceIdeal.Value.run m g)
  · refine ⟨Cert.KernelIdeal.Chunked.whole
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
    rotate_left
    · exact (θ_run _ _ _).mono (fun _ h => ⟨(h 0).1.trans (reference_eq _ _), (h 0).2⟩) (Cert.ReferenceIdeal.Value.run m' g')
    · exact (θ_run _ _ _).mono (fun _ h c => ⟨(h.1 c).1.trans (Cert.KernelIdeal.Chunked.res_eq m _ _
        (fun c => (hm c).1) (fun c => (hm c).2) c), (h.1 c).2⟩) (Cert.KernelIdeal.Chunked.run_result m g)⟩

end Cert.Proof

end
